-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_float_level [hPre_float_level : Cert.Pre_float_level.Facts] (m : (ℓ : Loc Cert.KernelIdeal.nD Cert.KernelIdeal.τ Cert.KernelIdeal.sig) → Buf (Elt Ideal) ℓ) : Prop :=
  ∀ c : Dev Cert.KernelIdeal.nD,
    (Cert.Pre_float_level.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_float_level [hPre_float_level : Cert.Pre_float_level.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_float_level.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_float_level [hKernelIdeal : Cert.KernelIdeal.Facts] [hPre_float_level : Cert.Pre_float_level.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_float_level m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_float_level [hReferenceIdeal : Cert.ReferenceIdeal.Facts] [hPre_float_level : Cert.Pre_float_level.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_float_level m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_float_level [hKernelIdeal : Cert.KernelIdeal.Facts] [hReferenceIdeal : Cert.ReferenceIdeal.Facts] [hPre_float_level : Cert.Pre_float_level.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_float_level m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_float_level : Cert.Pre_float_level.Facts),
    quiescent_Kernel (hKernel := hKernel)
    ∧ quiescent_KernelIdeal (hKernelIdeal := hKernelIdeal)
    ∧ quiescent_KernelIdeal_pre_float_level (hKernelIdeal := hKernelIdeal) (hPre_float_level := hPre_float_level)
    ∧ quiescent_ReferenceIdeal (hReferenceIdeal := hReferenceIdeal)
    ∧ quiescent_ReferenceIdeal_pre_float_level (hReferenceIdeal := hReferenceIdeal) (hPre_float_level := hPre_float_level)
    ∧ preserves_Kernel_KernelIdeal
    ∧ algebraic_KernelIdeal_ReferenceIdeal_pre_float_level (hKernelIdeal := hKernelIdeal) (hReferenceIdeal := hReferenceIdeal) (hPre_float_level := hPre_float_level)
-- ==== Pre_float_level.lean ====
abbrev S16x2x513x4096 : Shape := ⟨4, ![16, 2, 513, 4096]⟩
abbrev S16x1x513x4096 : Shape := ⟨4, ![16, 1, 513, 4096]⟩
abbrev S16x513x4096 : Shape := ⟨3, ![16, 513, 4096]⟩
abbrev S16x513x64 : Shape := ⟨3, ![16, 513, 64]⟩
abbrev S16x513x1 : Shape := ⟨3, ![16, 513, 1]⟩
abbrev S16x513 : Shape := ⟨2, ![16, 513]⟩
abbrev S_ : Shape := ⟨0, ![]⟩

class Facts : Prop where
  slices_S16x2x513x4096_S16x1x513x4096_0_0_0_0 : S16x2x513x4096.Slices ![0, 0, 0, 0] S16x1x513x4096
  shapeCasts_S16x1x513x4096_S16x513x4096 : S16x1x513x4096.ShapeCasts S16x513x4096
  sliceFits_S16x513x4096_S16x513x64 : S16x513x4096.Slices (fun _ => 0) S16x513x64
  slices_S16x513x64_S16x513x1_0_0_63 : S16x513x64.Slices ![0, 0, 63] S16x513x1
  shapeCasts_S16x513x1_S16x513 : S16x513x1.ShapeCasts S16x513
  bcast_S_S16x513 : S_.BroadcastsInDim S16x513 (![] : Fin 0 → Fin S16x513.rank)
  reducesTo_S16x513_S_d0_1 : S16x513.ReducesTo [0, 1] S_
  h_S_ : 0 < S_.numel
  slices_S16x2x513x4096_S16x1x513x4096_0_1_0_0 : S16x2x513x4096.Slices ![0, 1, 0, 0] S16x1x513x4096
  bcast_S_S16x513x4096 : S_.BroadcastsInDim S16x513x4096 (![] : Fin 0 → Fin S16x513x4096.rank)
  reducesTo_S16x513x4096_S_d0_1_2 : S16x513x4096.ReducesTo [0, 1, 2] S_

variable [Facts]

def fn_where {F : FTy → Type} [FloatOps F] (arg0 : IVec S16x513 1) (arg1 : FVec F S16x513 .f32) (arg2 : FVec F S16x513 .f32) : FVec F S16x513 .f32 :=
  let v0 : FVec F S16x513 .f32 := select arg0 arg1 arg2
  v0

def fn_part4 {F : FTy → Type} [FloatOps F] (main_arg0 : FVec F S16x2x513x4096 .f32) (main_v71 : IVec S16x513 1) : IVec S_ 1 :=
  let main_c : IVec S_ 1 := constantI S_ 1 1#1
  let main_v72 : IVec S_ 1 := (fun x v => Host.reduce IntOp.andi x v reducesTo_S16x513_S_d0_1 h_S_) main_v71 main_c
  let main_v73 : FVec F S16x1x513x4096 .f32 := (extractStridedSlice S16x1x513x4096 ![0, 1, 0, 0] · slices_S16x2x513x4096_S16x1x513x4096_0_1_0_0) main_arg0
  let main_v74 : FVec F S16x513x4096 .f32 := shapeCast S16x513x4096 main_v73 shapeCasts_S16x1x513x4096_S16x513x4096
  let main_v75 : FVec F S16x513x4096 .f32 := Host.absf main_v74
  let main_cst_21 : FVec F S_ .f32 := constant S_ .f32 0x7F800000#32
  let main_v76 : FVec F S16x513x4096 .f32 := broadcastInDim S16x513x4096 ![] bcast_S_S16x513x4096 main_cst_21
  let main_v77 : IVec S16x513x4096 1 := cmpf .olt main_v75 main_v76
  let main_c_22 : IVec S_ 1 := constantI S_ 1 1#1
  let main_v78 : IVec S_ 1 := (fun x v => Host.reduce IntOp.andi x v reducesTo_S16x513x4096_S_d0_1_2 h_S_) main_v77 main_c_22
  let main_v79 : IVec S_ 1 := andi main_v72 main_v78
  main_v79

def fn_part3 {F : FTy → Type} [FloatOps F] (main_arg0 : FVec F S16x2x513x4096 .f32) (main_v6 : FVec F S16x513 .f32) (main_v49 : FVec F S16x513 .f32) (main_v52 : IVec S16x513 1) (main_cst_15 : FVec F S_ .f32) : IVec S_ 1 :=
  let main_v53 : FVec F S16x513 .f32 := broadcastInDim S16x513 ![] bcast_S_S16x513 main_cst_15
  let main_v54 : FVec F S16x513 .f32 := mulf main_v49 main_v53
  let main_v55 : FVec F S16x513 .f32 := fn_where (F := F) main_v52 main_v54 main_v49
  let main_cst_16 : FVec F S_ .f32 := constant S_ .f32 0x40000000#32
  let main_v56 : FVec F S16x513 .f32 := broadcastInDim S16x513 ![] bcast_S_S16x513 main_cst_16
  let main_v57 : FVec F S16x513 .f32 := mulf main_v55 main_v56
  let main_v58 : IVec S16x513 1 := cmpf .ole main_v57 main_v6
  let main_cst_17 : FVec F S_ .f32 := constant S_ .f32 0x40000000#32
  let main_v59 : FVec F S16x513 .f32 := broadcastInDim S16x513 ![] bcast_S_S16x513 main_cst_17
  let main_v60 : FVec F S16x513 .f32 := mulf main_v55 main_v59
  let main_v61 : FVec F S16x513 .f32 := fn_where (F := F) main_v58 main_v60 main_v55
  let main_v62 : FVec F S16x513 .f32 := Host.divf main_v6 main_v61
  let main_cst_18 : FVec F S_ .f32 := constant S_ .f32 0x4B000000#32
  let main_v63 : FVec F S16x513 .f32 := broadcastInDim S16x513 ![] bcast_S_S16x513 main_cst_18
  let main_v64 : FVec F S16x513 .f32 := mulf main_v62 main_v63
  let main_v65 : FVec F S16x513 .f32 := Host.floor main_v64
  let main_v66 : IVec S16x513 1 := cmpf .oeq main_v64 main_v65
  let main_cst_19 : FVec F S_ .f32 := constant S_ .f32 0x1F800000#32
  let main_v67 : FVec F S16x513 .f32 := broadcastInDim S16x513 ![] bcast_S_S16x513 main_cst_19
  let main_v68 : FVec F S16x513 .f32 := mulf main_v6 main_v67
  let main_cst_20 : FVec F S_ .f32 := constant S_ .f32 0x5F800000#32
  let main_v69 : FVec F S16x513 .f32 := broadcastInDim S16x513 ![] bcast_S_S16x513 main_cst_20
  let main_v70 : IVec S16x513 1 := cmpf .olt main_v68 main_v69
  let main_v71 : IVec S16x513 1 := andi main_v66 main_v70
  fn_part4 (F := F) main_arg0 main_v71

def fn_part2 {F : FTy → Type} [FloatOps F] (main_arg0 : FVec F S16x2x513x4096 .f32) (main_v6 : FVec F S16x513 .f32) (main_v31 : FVec F S16x513 .f32) (main_v34 : IVec S16x513 1) (main_cst_9 : FVec F S_ .f32) : IVec S_ 1 :=
  let main_v35 : FVec F S16x513 .f32 := broadcastInDim S16x513 ![] bcast_S_S16x513 main_cst_9
  let main_v36 : FVec F S16x513 .f32 := mulf main_v31 main_v35
  let main_v37 : FVec F S16x513 .f32 := fn_where (F := F) main_v34 main_v36 main_v31
  let main_cst_10 : FVec F S_ .f32 := constant S_ .f32 0x43800000#32
  let main_v38 : FVec F S16x513 .f32 := broadcastInDim S16x513 ![] bcast_S_S16x513 main_cst_10
  let main_v39 : FVec F S16x513 .f32 := mulf main_v37 main_v38
  let main_v40 : IVec S16x513 1 := cmpf .ole main_v39 main_v6
  let main_cst_11 : FVec F S_ .f32 := constant S_ .f32 0x43800000#32
  let main_v41 : FVec F S16x513 .f32 := broadcastInDim S16x513 ![] bcast_S_S16x513 main_cst_11
  let main_v42 : FVec F S16x513 .f32 := mulf main_v37 main_v41
  let main_v43 : FVec F S16x513 .f32 := fn_where (F := F) main_v40 main_v42 main_v37
  let main_cst_12 : FVec F S_ .f32 := constant S_ .f32 0x41800000#32
  let main_v44 : FVec F S16x513 .f32 := broadcastInDim S16x513 ![] bcast_S_S16x513 main_cst_12
  let main_v45 : FVec F S16x513 .f32 := mulf main_v43 main_v44
  let main_v46 : IVec S16x513 1 := cmpf .ole main_v45 main_v6
  let main_cst_13 : FVec F S_ .f32 := constant S_ .f32 0x41800000#32
  let main_v47 : FVec F S16x513 .f32 := broadcastInDim S16x513 ![] bcast_S_S16x513 main_cst_13
  let main_v48 : FVec F S16x513 .f32 := mulf main_v43 main_v47
  let main_v49 : FVec F S16x513 .f32 := fn_where (F := F) main_v46 main_v48 main_v43
  let main_cst_14 : FVec F S_ .f32 := constant S_ .f32 0x40800000#32
  let main_v50 : FVec F S16x513 .f32 := broadcastInDim S16x513 ![] bcast_S_S16x513 main_cst_14
  let main_v51 : FVec F S16x513 .f32 := mulf main_v49 main_v50
  let main_v52 : IVec S16x513 1 := cmpf .ole main_v51 main_v6
  let main_cst_15 : FVec F S_ .f32 := constant S_ .f32 0x40800000#32
  fn_part3 (F := F) main_arg0 main_v6 main_v49 main_v52 main_cst_15

def fn_part1 {F : FTy → Type} [FloatOps F] (main_arg0 : FVec F S16x2x513x4096 .f32) (main_v6 : FVec F S16x513 .f32) (main_v13 : FVec F S16x513 .f32) (main_v16 : IVec S16x513 1) (main_cst_3 : FVec F S_ .f32) : IVec S_ 1 :=
  let main_v17 : FVec F S16x513 .f32 := broadcastInDim S16x513 ![] bcast_S_S16x513 main_cst_3
  let main_v18 : FVec F S16x513 .f32 := mulf main_v13 main_v17
  let main_v19 : FVec F S16x513 .f32 := fn_where (F := F) main_v16 main_v18 main_v13
  let main_cst_4 : FVec F S_ .f32 := constant S_ .f32 0x5F800000#32
  let main_v20 : FVec F S16x513 .f32 := broadcastInDim S16x513 ![] bcast_S_S16x513 main_cst_4
  let main_v21 : FVec F S16x513 .f32 := mulf main_v19 main_v20
  let main_v22 : IVec S16x513 1 := cmpf .ole main_v21 main_v6
  let main_cst_5 : FVec F S_ .f32 := constant S_ .f32 0x5F800000#32
  let main_v23 : FVec F S16x513 .f32 := broadcastInDim S16x513 ![] bcast_S_S16x513 main_cst_5
  let main_v24 : FVec F S16x513 .f32 := mulf main_v19 main_v23
  let main_v25 : FVec F S16x513 .f32 := fn_where (F := F) main_v22 main_v24 main_v19
  let main_cst_6 : FVec F S_ .f32 := constant S_ .f32 0x4F800000#32
  let main_v26 : FVec F S16x513 .f32 := broadcastInDim S16x513 ![] bcast_S_S16x513 main_cst_6
  let main_v27 : FVec F S16x513 .f32 := mulf main_v25 main_v26
  let main_v28 : IVec S16x513 1 := cmpf .ole main_v27 main_v6
  let main_cst_7 : FVec F S_ .f32 := constant S_ .f32 0x4F800000#32
  let main_v29 : FVec F S16x513 .f32 := broadcastInDim S16x513 ![] bcast_S_S16x513 main_cst_7
  let main_v30 : FVec F S16x513 .f32 := mulf main_v25 main_v29
  let main_v31 : FVec F S16x513 .f32 := fn_where (F := F) main_v28 main_v30 main_v25
  let main_cst_8 : FVec F S_ .f32 := constant S_ .f32 0x47800000#32
  let main_v32 : FVec F S16x513 .f32 := broadcastInDim S16x513 ![] bcast_S_S16x513 main_cst_8
  let main_v33 : FVec F S16x513 .f32 := mulf main_v31 main_v32
  let main_v34 : IVec S16x513 1 := cmpf .ole main_v33 main_v6
  let main_cst_9 : FVec F S_ .f32 := constant S_ .f32 0x47800000#32
  fn_part2 (F := F) main_arg0 main_v6 main_v31 main_v34 main_cst_9

def fn {F : FTy → Type} [FloatOps F] (main_arg0 : FVec F S16x2x513x4096 .f32) : IVec S_ 1 :=
  let main_v0 : FVec F S16x1x513x4096 .f32 := (extractStridedSlice S16x1x513x4096 ![0, 0, 0, 0] · slices_S16x2x513x4096_S16x1x513x4096_0_0_0_0) main_arg0
  let main_v1 : FVec F S16x513x4096 .f32 := shapeCast S16x513x4096 main_v0 shapeCasts_S16x1x513x4096_S16x513x4096
  let main_v2 : FVec F S16x513x4096 .f32 := mulf main_v1 main_v1
  let main_v3 : FVec F S16x513x4096 .f32 := Host.negf main_v2
  let main_values : FVec F S16x513x64 .f32 := (fun x => (Host.topK S16x513x64 2 (FloatOps.cmpfTotal .gt) x sliceFits_S16x513x4096_S16x513x64).1) main_v3
  let main_indices : IVec S16x513x64 32 := (fun x => (Host.topK S16x513x64 2 (FloatOps.cmpfTotal .gt) x sliceFits_S16x513x4096_S16x513x64).2) main_v3
  let main_v4 : FVec F S16x513x1 .f32 := (extractStridedSlice S16x513x1 ![0, 0, 63] · slices_S16x513x64_S16x513x1_0_0_63) main_values
  let main_v5 : FVec F S16x513 .f32 := shapeCast S16x513 main_v4 shapeCasts_S16x513x1_S16x513
  let main_v6 : FVec F S16x513 .f32 := Host.negf main_v5
  let main_cst : FVec F S_ .f32 := constant S_ .f32 0x00800000#32
  let main_v7 : FVec F S16x513 .f32 := broadcastInDim S16x513 ![] bcast_S_S16x513 main_cst
  let main_cst_0 : FVec F S_ .f32 := constant S_ .f32 0x5F800000#32
  let main_v8 : FVec F S16x513 .f32 := broadcastInDim S16x513 ![] bcast_S_S16x513 main_cst_0
  let main_v9 : FVec F S16x513 .f32 := mulf main_v7 main_v8
  let main_v10 : IVec S16x513 1 := cmpf .ole main_v9 main_v6
  let main_cst_1 : FVec F S_ .f32 := constant S_ .f32 0x5F800000#32
  let main_v11 : FVec F S16x513 .f32 := broadcastInDim S16x513 ![] bcast_S_S16x513 main_cst_1
  let main_v12 : FVec F S16x513 .f32 := mulf main_v7 main_v11
  let main_v13 : FVec F S16x513 .f32 := fn_where (F := F) main_v10 main_v12 main_v7
  let main_cst_2 : FVec F S_ .f32 := constant S_ .f32 0x5F800000#32
  let main_v14 : FVec F S16x513 .f32 := broadcastInDim S16x513 ![] bcast_S_S16x513 main_cst_2
  let main_v15 : FVec F S16x513 .f32 := mulf main_v13 main_v14
  let main_v16 : IVec S16x513 1 := cmpf .ole main_v15 main_v6
  let main_cst_3 : FVec F S_ .f32 := constant S_ .f32 0x5F800000#32
  fn_part1 (F := F) main_arg0 main_v6 main_v13 main_v16 main_cst_3
-- ==== Kernel.lean ====
abbrev S16x2x513x4096 : Shape := ⟨4, ![16, 2, 513, 4096]⟩
abbrev S2x2x64x4096 : Shape := ⟨4, ![2, 2, 64, 4096]⟩
abbrev S2 : Shape := ⟨1, ![2]⟩
abbrev S1 : Shape := ⟨1, ![1]⟩
abbrev S_ : Shape := ⟨0, ![]⟩
abbrev S1x2x64x4096 : Shape := ⟨4, ![1, 2, 64, 4096]⟩
abbrev S2x64x4096 : Shape := ⟨3, ![2, 64, 4096]⟩
abbrev S1x1x64x4096 : Shape := ⟨4, ![1, 1, 64, 4096]⟩
abbrev S64x4096 : Shape := ⟨2, ![64, 4096]⟩
abbrev S64x1 : Shape := ⟨2, ![64, 1]⟩
abbrev S64x2048 : Shape := ⟨2, ![64, 2048]⟩
abbrev S64x1024 : Shape := ⟨2, ![64, 1024]⟩
abbrev S64x512 : Shape := ⟨2, ![64, 512]⟩
abbrev S64x256 : Shape := ⟨2, ![64, 256]⟩
abbrev S64x128 : Shape := ⟨2, ![64, 128]⟩
abbrev S64 : Shape := ⟨1, ![64]⟩
abbrev S1x2x8x4096 : Shape := ⟨4, ![1, 2, 8, 4096]⟩
abbrev S1x1x8x4096 : Shape := ⟨4, ![1, 1, 8, 4096]⟩
abbrev S8x4096 : Shape := ⟨2, ![8, 4096]⟩
abbrev S8x1 : Shape := ⟨2, ![8, 1]⟩
abbrev S8x2048 : Shape := ⟨2, ![8, 2048]⟩
abbrev S8x1024 : Shape := ⟨2, ![8, 1024]⟩
abbrev S8x512 : Shape := ⟨2, ![8, 512]⟩
abbrev S8x256 : Shape := ⟨2, ![8, 256]⟩
abbrev S8x128 : Shape := ⟨2, ![8, 128]⟩
abbrev S8 : Shape := ⟨1, ![8]⟩

abbrev nBuf : Space → Nat
  | .hbm => 3
  | .vmem => 8
  | .smem => 0
  | _ => 0

abbrev bufTy : (tb : Table) → Fin (tcTables nBuf tb) → BufTy
  | .hbm, ⟨0, _⟩ => ⟨S16x2x513x4096, .f32⟩
  | .hbm, ⟨1, _⟩ => ⟨S16x2x513x4096, .f32⟩
  | .hbm, ⟨2, _⟩ => ⟨S16x2x513x4096, .f32⟩
  | .local _ .vmem, ⟨0, _⟩ => ⟨S2x2x64x4096, .f32⟩
  | .local _ .vmem, ⟨1, _⟩ => ⟨S2x2x64x4096, .f32⟩
  | .local _ .vmem, ⟨2, _⟩ => ⟨S1x2x8x4096, .f32⟩
  | .local _ .vmem, ⟨3, _⟩ => ⟨S1x2x8x4096, .f32⟩
  | .local _ .vmem, ⟨4, _⟩ => ⟨S1x2x8x4096, .f32⟩
  | .local _ .vmem, ⟨5, _⟩ => ⟨S1x2x8x4096, .f32⟩
  | .local _ .vmem, ⟨6, _⟩ => ⟨S1x2x8x4096, .f32⟩
  | .local _ .vmem, ⟨7, _⟩ => ⟨S1x2x8x4096, .f32⟩
  | _, _ => ⟨S16x2x513x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![64], ![false]⟩

def k0_off1 (i : grid0.Coords) : Fin 4 → Nat :=
  let c2_i32 : BitVec 32 := 2#32
  let arg0 : BitVec 32 := BitVec.ofNat 32 (i 0).val
  let v3 : BitVec 32 := Scalar.muli c2_i32 arg0
  let c1_i32 : BitVec 32 := 1#32
  let v4 : BitVec 32 := Scalar.addi v3 c1_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c8_i32 : BitVec 32 := 8#32
  let c0_i32_3 : BitVec 32 := 0#32
  let v11 : BitVec 1 := Scalar.cmpi .sgt c8_i32 c0_i32_3
  let v12 : BitVec 32 := Scalar.extui v11
  let c0_i32_4 : BitVec 32 := 0#32
  let v13 : BitVec 1 := Scalar.cmpi .slt c8_i32 c0_i32_4
  let v14 : BitVec 32 := Scalar.extui v13
  let v15 : BitVec 32 := Scalar.subi v12 v14
  let v16 : BitVec 1 := Scalar.cmpi .ne v10 v15
  let v17 : BitVec 32 := Scalar.remsi v4 c8_i32
  let c0_i32_5 : BitVec 32 := 0#32
  let v18 : BitVec 1 := Scalar.cmpi .ne v17 c0_i32_5
  let v19 : BitVec 1 := Scalar.andi v16 v18
  let v5 : BitVec 32 := Scalar.divsi v4 c8_i32
  let c1_i32_6 : BitVec 32 := 1#32
  let v20 : BitVec 32 := Scalar.subi v5 c1_i32_6
  let v21 : BitVec 32 := Scalar.select v19 v20 v5
  let c0_i32_18 : BitVec 32 := 0#32
  let c8_i32_7 : BitVec 32 := 8#32
  let c0_i32_8 : BitVec 32 := 0#32
  let v22 : BitVec 1 := Scalar.cmpi .eq c8_i32_7 c0_i32_8
  let c1_i32_9 : BitVec 32 := 1#32
  let v23 : BitVec 32 := Scalar.select v22 c1_i32_9 c8_i32_7
  let v24 : BitVec 32 := Scalar.remsi v4 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c64_i32 : BitVec 32 := 64#32
  let v32 : BitVec 32 := Scalar.muli v31 c64_i32
  let c0_i32_19 : BitVec 32 := 0#32
  ![v21.toNat, 0, v32.toNat, 0]
def k0_off2 (i : grid0.Coords) : Fin 4 → Nat :=
  let c2_i32_20 : BitVec 32 := 2#32
  let arg0 : BitVec 32 := BitVec.ofNat 32 (i 0).val
  let v39 : BitVec 32 := Scalar.muli c2_i32_20 arg0
  let c0_i32_22 : BitVec 32 := 0#32
  let v41 : BitVec 1 := Scalar.cmpi .sgt v39 c0_i32_22
  let v42 : BitVec 32 := Scalar.extui v41
  let c0_i32_23 : BitVec 32 := 0#32
  let v43 : BitVec 1 := Scalar.cmpi .slt v39 c0_i32_23
  let v44 : BitVec 32 := Scalar.extui v43
  let v45 : BitVec 32 := Scalar.subi v42 v44
  let c8_i32_21 : BitVec 32 := 8#32
  let c0_i32_24 : BitVec 32 := 0#32
  let v46 : BitVec 1 := Scalar.cmpi .sgt c8_i32_21 c0_i32_24
  let v47 : BitVec 32 := Scalar.extui v46
  let c0_i32_25 : BitVec 32 := 0#32
  let v48 : BitVec 1 := Scalar.cmpi .slt c8_i32_21 c0_i32_25
  let v49 : BitVec 32 := Scalar.extui v48
  let v50 : BitVec 32 := Scalar.subi v47 v49
  let v51 : BitVec 1 := Scalar.cmpi .ne v45 v50
  let v52 : BitVec 32 := Scalar.remsi v39 c8_i32_21
  let c0_i32_26 : BitVec 32 := 0#32
  let v53 : BitVec 1 := Scalar.cmpi .ne v52 c0_i32_26
  let v54 : BitVec 1 := Scalar.andi v51 v53
  let v40 : BitVec 32 := Scalar.divsi v39 c8_i32_21
  let c1_i32_27 : BitVec 32 := 1#32
  let v55 : BitVec 32 := Scalar.subi v40 c1_i32_27
  let v56 : BitVec 32 := Scalar.select v54 v55 v40
  let c0_i32_40 : BitVec 32 := 0#32
  let c8_i32_28 : BitVec 32 := 8#32
  let c0_i32_29 : BitVec 32 := 0#32
  let v57 : BitVec 1 := Scalar.cmpi .eq c8_i32_28 c0_i32_29
  let c1_i32_30 : BitVec 32 := 1#32
  let v58 : BitVec 32 := Scalar.select v57 c1_i32_30 c8_i32_28
  let v59 : BitVec 32 := Scalar.remsi v39 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c64_i32_34 : BitVec 32 := 64#32
  let v67 : BitVec 32 := Scalar.muli v66 c64_i32_34
  let c0_i32_41 : BitVec 32 := 0#32
  ![v56.toNat, 0, v67.toNat, 0]
def k0_cond2 (i : grid0.Coords) : BitVec 1 :=
  let arg0 : BitVec 32 := BitVec.ofNat 32 (i 0).val
  let c1_i32_42 : BitVec 32 := 1#32
  let v74 : BitVec 1 := Scalar.cmpi .sge arg0 c1_i32_42
  let v75 : BitVec 32 := Scalar.extui v74
  let c0_i32_43 : BitVec 32 := 0#32
  let v76 : BitVec 1 := Scalar.cmpi .ne v75 c0_i32_43
  v76

def k0_off3 (i : grid0.Coords) : Fin 4 → Nat :=
  let c2_i32_601 : BitVec 32 := 2#32
  let arg0 : BitVec 32 := BitVec.ofNat 32 (i 0).val
  let v2856 : BitVec 32 := Scalar.muli c2_i32_601 arg0
  let c2_i32_602 : BitVec 32 := 2#32
  let v2857 : BitVec 32 := Scalar.subi v2856 c2_i32_602
  let c0_i32_604 : BitVec 32 := 0#32
  let v2859 : BitVec 1 := Scalar.cmpi .sgt v2857 c0_i32_604
  let v2860 : BitVec 32 := Scalar.extui v2859
  let c0_i32_605 : BitVec 32 := 0#32
  let v2861 : BitVec 1 := Scalar.cmpi .slt v2857 c0_i32_605
  let v2862 : BitVec 32 := Scalar.extui v2861
  let v2863 : BitVec 32 := Scalar.subi v2860 v2862
  let c8_i32_603 : BitVec 32 := 8#32
  let c0_i32_606 : BitVec 32 := 0#32
  let v2864 : BitVec 1 := Scalar.cmpi .sgt c8_i32_603 c0_i32_606
  let v2865 : BitVec 32 := Scalar.extui v2864
  let c0_i32_607 : BitVec 32 := 0#32
  let v2866 : BitVec 1 := Scalar.cmpi .slt c8_i32_603 c0_i32_607
  let v2867 : BitVec 32 := Scalar.extui v2866
  let v2868 : BitVec 32 := Scalar.subi v2865 v2867
  let v2869 : BitVec 1 := Scalar.cmpi .ne v2863 v2868
  let v2870 : BitVec 32 := Scalar.remsi v2857 c8_i32_603
  let c0_i32_608 : BitVec 32 := 0#32
  let v2871 : BitVec 1 := Scalar.cmpi .ne v2870 c0_i32_608
  let v2872 : BitVec 1 := Scalar.andi v2869 v2871
  let v2858 : BitVec 32 := Scalar.divsi v2857 c8_i32_603
  let c1_i32_609 : BitVec 32 := 1#32
  let v2873 : BitVec 32 := Scalar.subi v2858 c1_i32_609
  let v2874 : BitVec 32 := Scalar.select v2872 v2873 v2858
  let c0_i32_619 : BitVec 32 := 0#32
  let c8_i32_610 : BitVec 32 := 8#32
  let c0_i32_611 : BitVec 32 := 0#32
  let v2875 : BitVec 1 := Scalar.cmpi .eq c8_i32_610 c0_i32_611
  let c1_i32_612 : BitVec 32 := 1#32
  let v2876 : BitVec 32 := Scalar.select v2875 c1_i32_612 c8_i32_610
  let v2877 : BitVec 32 := Scalar.remsi v2857 v2876
  let c0_i32_614 : BitVec 32 := 0#32
  let v2879 : BitVec 1 := Scalar.cmpi .slt v2877 c0_i32_614
  let c0_i32_615 : BitVec 32 := 0#32
  let v2880 : BitVec 1 := Scalar.cmpi .slt v2876 c0_i32_615
  let v2881 : BitVec 1 := Scalar.xori v2879 v2880
  let c0_i32_613 : BitVec 32 := 0#32
  let v2878 : BitVec 1 := Scalar.cmpi .ne v2877 c0_i32_613
  let v2882 : BitVec 1 := Scalar.andi v2881 v2878
  let v2883 : BitVec 32 := Scalar.addi v2877 v2876
  let v2884 : BitVec 32 := Scalar.select v2882 v2883 v2877
  let c64_i32_616 : BitVec 32 := 64#32
  let v2885 : BitVec 32 := Scalar.muli v2884 c64_i32_616
  let c0_i32_620 : BitVec 32 := 0#32
  ![v2874.toNat, 0, v2885.toNat, 0]
def k0_cond3 (i : grid0.Coords) : BitVec 1 :=
  let arg0 : BitVec 32 := BitVec.ofNat 32 (i 0).val
  let c1_i32_289 : BitVec 32 := 1#32
  let v1443 : BitVec 32 := Scalar.addi arg0 c1_i32_289
  let c64_i32_290 : BitVec 32 := 64#32
  let v1444 : BitVec 1 := Scalar.cmpi .slt v1443 c64_i32_290
  let v1445 : BitVec 32 := Scalar.extui v1444
  let c0_i32_291 : BitVec 32 := 0#32
  let v1446 : BitVec 1 := Scalar.cmpi .ne v1445 c0_i32_291
  v1446

def k0_off4 (i : grid0.Coords) : Fin 4 → Nat :=
  let c2_i32_601 : BitVec 32 := 2#32
  let arg0 : BitVec 32 := BitVec.ofNat 32 (i 0).val
  let v2856 : BitVec 32 := Scalar.muli c2_i32_601 arg0
  let c2_i32_602 : BitVec 32 := 2#32
  let v2857 : BitVec 32 := Scalar.addi v2856 c2_i32_602
  let c0_i32_604 : BitVec 32 := 0#32
  let v2859 : BitVec 1 := Scalar.cmpi .sgt v2857 c0_i32_604
  let v2860 : BitVec 32 := Scalar.extui v2859
  let c0_i32_605 : BitVec 32 := 0#32
  let v2861 : BitVec 1 := Scalar.cmpi .slt v2857 c0_i32_605
  let v2862 : BitVec 32 := Scalar.extui v2861
  let v2863 : BitVec 32 := Scalar.subi v2860 v2862
  let c8_i32_603 : BitVec 32 := 8#32
  let c0_i32_606 : BitVec 32 := 0#32
  let v2864 : BitVec 1 := Scalar.cmpi .sgt c8_i32_603 c0_i32_606
  let v2865 : BitVec 32 := Scalar.extui v2864
  let c0_i32_607 : BitVec 32 := 0#32
  let v2866 : BitVec 1 := Scalar.cmpi .slt c8_i32_603 c0_i32_607
  let v2867 : BitVec 32 := Scalar.extui v2866
  let v2868 : BitVec 32 := Scalar.subi v2865 v2867
  let v2869 : BitVec 1 := Scalar.cmpi .ne v2863 v2868
  let v2870 : BitVec 32 := Scalar.remsi v2857 c8_i32_603
  let c0_i32_608 : BitVec 32 := 0#32
  let v2871 : BitVec 1 := Scalar.cmpi .ne v2870 c0_i32_608
  let v2872 : BitVec 1 := Scalar.andi v2869 v2871
  let v2858 : BitVec 32 := Scalar.divsi v2857 c8_i32_603
  let c1_i32_609 : BitVec 32 := 1#32
  let v2873 : BitVec 32 := Scalar.subi v2858 c1_i32_609
  let v2874 : BitVec 32 := Scalar.select v2872 v2873 v2858
  let c0_i32_622 : BitVec 32 := 0#32
  let c8_i32_610 : BitVec 32 := 8#32
  let c0_i32_611 : BitVec 32 := 0#32
  let v2875 : BitVec 1 := Scalar.cmpi .eq c8_i32_610 c0_i32_611
  let c1_i32_612 : BitVec 32 := 1#32
  let v2876 : BitVec 32 := Scalar.select v2875 c1_i32_612 c8_i32_610
  let v2877 : BitVec 32 := Scalar.remsi v2857 v2876
  let c0_i32_614 : BitVec 32 := 0#32
  let v2879 : BitVec 1 := Scalar.cmpi .slt v2877 c0_i32_614
  let c0_i32_615 : BitVec 32 := 0#32
  let v2880 : BitVec 1 := Scalar.cmpi .slt v2876 c0_i32_615
  let v2881 : BitVec 1 := Scalar.xori v2879 v2880
  let c0_i32_613 : BitVec 32 := 0#32
  let v2878 : BitVec 1 := Scalar.cmpi .ne v2877 c0_i32_613
  let v2882 : BitVec 1 := Scalar.andi v2881 v2878
  let v2883 : BitVec 32 := Scalar.addi v2877 v2876
  let v2884 : BitVec 32 := Scalar.select v2882 v2883 v2877
  let c64_i32_616 : BitVec 32 := 64#32
  let v2885 : BitVec 32 := Scalar.muli v2884 c64_i32_616
  let c0_i32_623 : BitVec 32 := 0#32
  ![v2874.toNat, 0, v2885.toNat, 0]
def k0_cond4 (i : grid0.Coords) : BitVec 1 :=
  let arg0 : BitVec 32 := BitVec.ofNat 32 (i 0).val
  let c1_i32_315 : BitVec 32 := 1#32
  let v1483 : BitVec 1 := Scalar.cmpi .sge arg0 c1_i32_315
  let v1484 : BitVec 32 := Scalar.extui v1483
  let c0_i32_316 : BitVec 32 := 0#32
  let v1485 : BitVec 1 := Scalar.cmpi .ne v1484 c0_i32_316
  v1485

def k0_off5 (i : grid0.Coords) : Fin 4 → Nat :=
  let c2_i32_601 : BitVec 32 := 2#32
  let arg0 : BitVec 32 := BitVec.ofNat 32 (i 0).val
  let v2856 : BitVec 32 := Scalar.muli c2_i32_601 arg0
  let c1_i32_602 : BitVec 32 := 1#32
  let v2857 : BitVec 32 := Scalar.subi v2856 c1_i32_602
  let c0_i32_604 : BitVec 32 := 0#32
  let v2859 : BitVec 1 := Scalar.cmpi .sgt v2857 c0_i32_604
  let v2860 : BitVec 32 := Scalar.extui v2859
  let c0_i32_605 : BitVec 32 := 0#32
  let v2861 : BitVec 1 := Scalar.cmpi .slt v2857 c0_i32_605
  let v2862 : BitVec 32 := Scalar.extui v2861
  let v2863 : BitVec 32 := Scalar.subi v2860 v2862
  let c8_i32_603 : BitVec 32 := 8#32
  let c0_i32_606 : BitVec 32 := 0#32
  let v2864 : BitVec 1 := Scalar.cmpi .sgt c8_i32_603 c0_i32_606
  let v2865 : BitVec 32 := Scalar.extui v2864
  let c0_i32_607 : BitVec 32 := 0#32
  let v2866 : BitVec 1 := Scalar.cmpi .slt c8_i32_603 c0_i32_607
  let v2867 : BitVec 32 := Scalar.extui v2866
  let v2868 : BitVec 32 := Scalar.subi v2865 v2867
  let v2869 : BitVec 1 := Scalar.cmpi .ne v2863 v2868
  let v2870 : BitVec 32 := Scalar.remsi v2857 c8_i32_603
  let c0_i32_608 : BitVec 32 := 0#32
  let v2871 : BitVec 1 := Scalar.cmpi .ne v2870 c0_i32_608
  let v2872 : BitVec 1 := Scalar.andi v2869 v2871
  let v2858 : BitVec 32 := Scalar.divsi v2857 c8_i32_603
  let c1_i32_609 : BitVec 32 := 1#32
  let v2873 : BitVec 32 := Scalar.subi v2858 c1_i32_609
  let v2874 : BitVec 32 := Scalar.select v2872 v2873 v2858
  let c0_i32_619 : BitVec 32 := 0#32
  let c8_i32_610 : BitVec 32 := 8#32
  let c0_i32_611 : BitVec 32 := 0#32
  let v2875 : BitVec 1 := Scalar.cmpi .eq c8_i32_610 c0_i32_611
  let c1_i32_612 : BitVec 32 := 1#32
  let v2876 : BitVec 32 := Scalar.select v2875 c1_i32_612 c8_i32_610
  let v2877 : BitVec 32 := Scalar.remsi v2857 v2876
  let c0_i32_614 : BitVec 32 := 0#32
  let v2879 : BitVec 1 := Scalar.cmpi .slt v2877 c0_i32_614
  let c0_i32_615 : BitVec 32 := 0#32
  let v2880 : BitVec 1 := Scalar.cmpi .slt v2876 c0_i32_615
  let v2881 : BitVec 1 := Scalar.xori v2879 v2880
  let c0_i32_613 : BitVec 32 := 0#32
  let v2878 : BitVec 1 := Scalar.cmpi .ne v2877 c0_i32_613
  let v2882 : BitVec 1 := Scalar.andi v2881 v2878
  let v2883 : BitVec 32 := Scalar.addi v2877 v2876
  let v2884 : BitVec 32 := Scalar.select v2882 v2883 v2877
  let c64_i32_616 : BitVec 32 := 64#32
  let v2885 : BitVec 32 := Scalar.muli v2884 c64_i32_616
  let c0_i32_620 : BitVec 32 := 0#32
  ![v2874.toNat, 0, v2885.toNat, 0]
def k0_cond5 (i : grid0.Coords) : BitVec 1 :=
  let arg0 : BitVec 32 := BitVec.ofNat 32 (i 0).val
  let c63_i32 : BitVec 32 := 63#32
  let v2853 : BitVec 1 := Scalar.cmpi .eq arg0 c63_i32
  let v2854 : BitVec 32 := Scalar.extui v2853
  let c0_i32_600 : BitVec 32 := 0#32
  let v2855 : BitVec 1 := Scalar.cmpi .ne v2854 c0_i32_600
  v2855

def k0_off6 (i : grid0.Coords) : Fin 4 → Nat :=
  let c2_i32_601 : BitVec 32 := 2#32
  let arg0 : BitVec 32 := BitVec.ofNat 32 (i 0).val
  let v2856 : BitVec 32 := Scalar.muli c2_i32_601 arg0
  let c0_i32_603 : BitVec 32 := 0#32
  let v2858 : BitVec 1 := Scalar.cmpi .sgt v2856 c0_i32_603
  let v2859 : BitVec 32 := Scalar.extui v2858
  let c0_i32_604 : BitVec 32 := 0#32
  let v2860 : BitVec 1 := Scalar.cmpi .slt v2856 c0_i32_604
  let v2861 : BitVec 32 := Scalar.extui v2860
  let v2862 : BitVec 32 := Scalar.subi v2859 v2861
  let c8_i32_602 : BitVec 32 := 8#32
  let c0_i32_605 : BitVec 32 := 0#32
  let v2863 : BitVec 1 := Scalar.cmpi .sgt c8_i32_602 c0_i32_605
  let v2864 : BitVec 32 := Scalar.extui v2863
  let c0_i32_606 : BitVec 32 := 0#32
  let v2865 : BitVec 1 := Scalar.cmpi .slt c8_i32_602 c0_i32_606
  let v2866 : BitVec 32 := Scalar.extui v2865
  let v2867 : BitVec 32 := Scalar.subi v2864 v2866
  let v2868 : BitVec 1 := Scalar.cmpi .ne v2862 v2867
  let v2869 : BitVec 32 := Scalar.remsi v2856 c8_i32_602
  let c0_i32_607 : BitVec 32 := 0#32
  let v2870 : BitVec 1 := Scalar.cmpi .ne v2869 c0_i32_607
  let v2871 : BitVec 1 := Scalar.andi v2868 v2870
  let v2857 : BitVec 32 := Scalar.divsi v2856 c8_i32_602
  let c1_i32_608 : BitVec 32 := 1#32
  let v2872 : BitVec 32 := Scalar.subi v2857 c1_i32_608
  let v2873 : BitVec 32 := Scalar.select v2871 v2872 v2857
  let c0_i32_618 : BitVec 32 := 0#32
  let c8_i32_609 : BitVec 32 := 8#32
  let c0_i32_610 : BitVec 32 := 0#32
  let v2874 : BitVec 1 := Scalar.cmpi .eq c8_i32_609 c0_i32_610
  let c1_i32_611 : BitVec 32 := 1#32
  let v2875 : BitVec 32 := Scalar.select v2874 c1_i32_611 c8_i32_609
  let v2876 : BitVec 32 := Scalar.remsi v2856 v2875
  let c0_i32_613 : BitVec 32 := 0#32
  let v2878 : BitVec 1 := Scalar.cmpi .slt v2876 c0_i32_613
  let c0_i32_614 : BitVec 32 := 0#32
  let v2879 : BitVec 1 := Scalar.cmpi .slt v2875 c0_i32_614
  let v2880 : BitVec 1 := Scalar.xori v2878 v2879
  let c0_i32_612 : BitVec 32 := 0#32
  let v2877 : BitVec 1 := Scalar.cmpi .ne v2876 c0_i32_612
  let v2881 : BitVec 1 := Scalar.andi v2880 v2877
  let v2882 : BitVec 32 := Scalar.addi v2876 v2875
  let v2883 : BitVec 32 := Scalar.select v2881 v2882 v2876
  let c64_i32_615 : BitVec 32 := 64#32
  let v2884 : BitVec 32 := Scalar.muli v2883 c64_i32_615
  let c0_i32_619 : BitVec 32 := 0#32
  ![v2873.toNat, 0, v2884.toNat, 0]
def k0_off7 (i : grid0.Coords) : Fin 4 → Nat :=
  let c2_i32_623 : BitVec 32 := 2#32
  let arg0 : BitVec 32 := BitVec.ofNat 32 (i 0).val
  let v2891 : BitVec 32 := Scalar.muli c2_i32_623 arg0
  let c1_i32_624 : BitVec 32 := 1#32
  let v2892 : BitVec 32 := Scalar.addi v2891 c1_i32_624
  let c0_i32_626 : BitVec 32 := 0#32
  let v2894 : BitVec 1 := Scalar.cmpi .sgt v2892 c0_i32_626
  let v2895 : BitVec 32 := Scalar.extui v2894
  let c0_i32_627 : BitVec 32 := 0#32
  let v2896 : BitVec 1 := Scalar.cmpi .slt v2892 c0_i32_627
  let v2897 : BitVec 32 := Scalar.extui v2896
  let v2898 : BitVec 32 := Scalar.subi v2895 v2897
  let c8_i32_625 : BitVec 32 := 8#32
  let c0_i32_628 : BitVec 32 := 0#32
  let v2899 : BitVec 1 := Scalar.cmpi .sgt c8_i32_625 c0_i32_628
  let v2900 : BitVec 32 := Scalar.extui v2899
  let c0_i32_629 : BitVec 32 := 0#32
  let v2901 : BitVec 1 := Scalar.cmpi .slt c8_i32_625 c0_i32_629
  let v2902 : BitVec 32 := Scalar.extui v2901
  let v2903 : BitVec 32 := Scalar.subi v2900 v2902
  let v2904 : BitVec 1 := Scalar.cmpi .ne v2898 v2903
  let v2905 : BitVec 32 := Scalar.remsi v2892 c8_i32_625
  let c0_i32_630 : BitVec 32 := 0#32
  let v2906 : BitVec 1 := Scalar.cmpi .ne v2905 c0_i32_630
  let v2907 : BitVec 1 := Scalar.andi v2904 v2906
  let v2893 : BitVec 32 := Scalar.divsi v2892 c8_i32_625
  let c1_i32_631 : BitVec 32 := 1#32
  let v2908 : BitVec 32 := Scalar.subi v2893 c1_i32_631
  let v2909 : BitVec 32 := Scalar.select v2907 v2908 v2893
  let c0_i32_641 : BitVec 32 := 0#32
  let c8_i32_632 : BitVec 32 := 8#32
  let c0_i32_633 : BitVec 32 := 0#32
  let v2910 : BitVec 1 := Scalar.cmpi .eq c8_i32_632 c0_i32_633
  let c1_i32_634 : BitVec 32 := 1#32
  let v2911 : BitVec 32 := Scalar.select v2910 c1_i32_634 c8_i32_632
  let v2912 : BitVec 32 := Scalar.remsi v2892 v2911
  let c0_i32_636 : BitVec 32 := 0#32
  let v2914 : BitVec 1 := Scalar.cmpi .slt v2912 c0_i32_636
  let c0_i32_637 : BitVec 32 := 0#32
  let v2915 : BitVec 1 := Scalar.cmpi .slt v2911 c0_i32_637
  let v2916 : BitVec 1 := Scalar.xori v2914 v2915
  let c0_i32_635 : BitVec 32 := 0#32
  let v2913 : BitVec 1 := Scalar.cmpi .ne v2912 c0_i32_635
  let v2917 : BitVec 1 := Scalar.andi v2916 v2913
  let v2918 : BitVec 32 := Scalar.addi v2912 v2911
  let v2919 : BitVec 32 := Scalar.select v2917 v2918 v2912
  let c64_i32_638 : BitVec 32 := 64#32
  let v2920 : BitVec 32 := Scalar.muli v2919 c64_i32_638
  let c0_i32_642 : BitVec 32 := 0#32
  ![v2909.toNat, 0, v2920.toNat, 0]
abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c64_i32 : BitVec 32 := 64#32
  let c0_i32_0 : BitVec 32 := 0#32
  let c0_i32_1 : BitVec 32 := 0#32
  ![arg0.toNat, c0_i32.toNat, c64_i32.toNat, c0_i32_0.toNat]

def cc1_transform_1 (i : grid1.Coords) : Fin 4 → Nat :=
  let arg0 : BitVec 32 := BitVec.ofNat 32 (i 0).val
  let c0_i32 : BitVec 32 := 0#32
  let c64_i32 : BitVec 32 := 64#32
  let c0_i32_0 : BitVec 32 := 0#32
  let c0_i32_1 : BitVec 32 := 0#32
  ![arg0.toNat, c0_i32.toNat, c64_i32.toNat, c0_i32_0.toNat]

def cc1_transform_2 (i : grid1.Coords) : Fin 4 → Nat :=
  let arg0 : BitVec 32 := BitVec.ofNat 32 (i 0).val
  let c0_i32 : BitVec 32 := 0#32
  let c64_i32 : BitVec 32 := 64#32
  let c0_i32_0 : BitVec 32 := 0#32
  let c0_i32_1 : BitVec 32 := 0#32
  ![arg0.toNat, c0_i32.toNat, c64_i32.toNat, c0_i32_0.toNat]

abbrev stage1_0 : Fin 2 → Memref sig .tc .vmem S1x2x8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2x8x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2x8x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S16x2x513x4096 : Shape := ⟨4, ![16, 2, 513, 4096]⟩
abbrev S16x1x513x4096 : Shape := ⟨4, ![16, 1, 513, 4096]⟩
abbrev S16x513x4096 : Shape := ⟨3, ![16, 513, 4096]⟩
abbrev S16x513x64 : Shape := ⟨3, ![16, 513, 64]⟩
abbrev S_ : Shape := ⟨0, ![]⟩
abbrev S16x513 : Shape := ⟨2, ![16, 513]⟩
abbrev S16x513x1 : Shape := ⟨3, ![16, 513, 1]⟩

abbrev nBuf : Space → Nat
  | .hbm => 118
  | .vmem => 0
  | .smem => 0
  | _ => 0

abbrev bufTy : (tb : Table) → Fin (tcTables nBuf tb) → BufTy
  | .hbm, ⟨0, _⟩ => ⟨S16x2x513x4096, .f32⟩
  | .hbm, ⟨1, _⟩ => ⟨S16x1x513x4096, .f32⟩
  | .hbm, ⟨2, _⟩ => ⟨S16x513x4096, .f32⟩
  | .hbm, ⟨3, _⟩ => ⟨S16x1x513x4096, .f32⟩
  | .hbm, ⟨4, _⟩ => ⟨S16x513x4096, .f32⟩
  | .hbm, ⟨5, _⟩ => ⟨S16x513x4096, .f32⟩
  | .hbm, ⟨6, _⟩ => ⟨S16x513x4096, .f32⟩
  | .hbm, ⟨7, _⟩ => ⟨S16x513x64, .f32⟩
  | .hbm, ⟨8, _⟩ => ⟨S16x513x64, .i32⟩
  | .hbm, ⟨9, _⟩ => ⟨S16x513x64, .f32⟩
  | .hbm, ⟨10, _⟩ => ⟨S_, .f32⟩
  | .hbm, ⟨11, _⟩ => ⟨S16x513, .f32⟩
  | .hbm, ⟨12, _⟩ => ⟨S_, .f32⟩
  | .hbm, ⟨13, _⟩ => ⟨S16x513, .f32⟩
  | .hbm, ⟨14, _⟩ => ⟨S16x513, .f32⟩
  | .hbm, ⟨15, _⟩ => ⟨S16x513x1, .f32⟩
  | .hbm, ⟨16, _⟩ => ⟨S16x513x4096, .f32⟩
  | .hbm, ⟨17, _⟩ => ⟨S16x513x4096, .f32⟩
  | .hbm, ⟨18, _⟩ => ⟨S_, .f32⟩
  | .hbm, ⟨19, _⟩ => ⟨S16x513x4096, .f32⟩
  | .hbm, ⟨20, _⟩ => ⟨S16x513x4096, .f32⟩
  | .hbm, ⟨21, _⟩ => ⟨S_, .f32⟩
  | .hbm, ⟨22, _⟩ => ⟨S16x513x4096, .f32⟩
  | .hbm, ⟨23, _⟩ => ⟨S16x513x4096, .f32⟩
  | .hbm, ⟨24, _⟩ => ⟨S16x513x4096, .f32⟩
  | .hbm, ⟨25, _⟩ => ⟨S_, .f32⟩
  | .hbm, ⟨26, _⟩ => ⟨S16x513x4096, .f32⟩
  | .hbm, ⟨27, _⟩ => ⟨S16x513x4096, .f32⟩
  | .hbm, ⟨28, _⟩ => ⟨S16x513x4096, .f32⟩
  | .hbm, ⟨29, _⟩ => ⟨S_, .f32⟩
  | .hbm, ⟨30, _⟩ => ⟨S16x513x4096, .f32⟩
  | .hbm, ⟨31, _⟩ => ⟨S16x513x4096, .f32⟩
  | .hbm, ⟨32, _⟩ => ⟨S16x513x4096, .f32⟩
  | .hbm, ⟨33, _⟩ => ⟨S16x513x4096, .f32⟩
  | .hbm, ⟨34, _⟩ => ⟨S_, .f32⟩
  | .hbm, ⟨35, _⟩ => ⟨S16x513x4096, .f32⟩
  | .hbm, ⟨36, _⟩ => ⟨S16x513x4096, .f32⟩
  | .hbm, ⟨37, _⟩ => ⟨S_, .f32⟩
  | .hbm, ⟨38, _⟩ => ⟨S16x513x4096, .f32⟩
  | .hbm, ⟨39, _⟩ => ⟨S16x513x4096, .f32⟩
  | .hbm, ⟨40, _⟩ => ⟨S16x513x4096, .f32⟩
  | .hbm, ⟨41, _⟩ => ⟨S16x513x4096, .f32⟩
  | .hbm, ⟨42, _⟩ => ⟨S_, .f32⟩
  | .hbm, ⟨43, _⟩ => ⟨S16x513x4096, .f32⟩
  | .hbm, ⟨44, _⟩ => ⟨S16x513x4096, .f32⟩
  | .hbm, ⟨45, _⟩ => ⟨S16x513x4096, .f32⟩
  | .hbm, ⟨46, _⟩ => ⟨S16x513x4096, .f32⟩
  | .hbm, ⟨47, _⟩ => ⟨S16x513x4096, .f32⟩
  | .hbm, ⟨48, _⟩ => ⟨S16x513x4096, .f32⟩
  | .hbm, ⟨49, _⟩ => ⟨S_, .f32⟩
  | .hbm, ⟨50, _⟩ => ⟨S16x513x4096, .f32⟩
  | .hbm, ⟨51, _⟩ => ⟨S16x513x4096, .f32⟩
  | .hbm, ⟨52, _⟩ => ⟨S16x513x4096, .f32⟩
  | .hbm, ⟨53, _⟩ => ⟨S16x513x4096, .f32⟩
  | .hbm, ⟨54, _⟩ => ⟨S16x513x4096, .f32⟩
  | .hbm, ⟨55, _⟩ => ⟨S16x513x4096, .f32⟩
  | .hbm, ⟨56, _⟩ => ⟨S_, .f32⟩
  | .hbm, ⟨57, _⟩ => ⟨S16x513x4096, .f32⟩
  | .hbm, ⟨58, _⟩ => ⟨S16x513x4096, .f32⟩
  | .hbm, ⟨59, _⟩ => ⟨S16x513x4096, .f32⟩
  | .hbm, ⟨60, _⟩ => ⟨S16x513x4096, .f32⟩
  | .hbm, ⟨61, _⟩ => ⟨S16x513x4096, .f32⟩
  | .hbm, ⟨62, _⟩ => ⟨S_, .f32⟩
  | .hbm, ⟨63, _⟩ => ⟨S16x513x4096, .f32⟩
  | .hbm, ⟨64, _⟩ => ⟨S16x513x4096, .f32⟩
  | .hbm, ⟨65, _⟩ => ⟨S16x513x4096, .f32⟩
  | .hbm, ⟨66, _⟩ => ⟨S16x513x4096, .f32⟩
  | .hbm, ⟨67, _⟩ => ⟨S16x513x4096, .f32⟩
  | .hbm, ⟨68, _⟩ => ⟨S16x513x4096, .f32⟩
  | .hbm, ⟨69, _⟩ => ⟨S_, .f32⟩
  | .hbm, ⟨70, _⟩ => ⟨S16x513x4096, .f32⟩
  | .hbm, ⟨71, _⟩ => ⟨S16x513x4096, .f32⟩
  | .hbm, ⟨72, _⟩ => ⟨S16x513x4096, .f32⟩
  | .hbm, ⟨73, _⟩ => ⟨S16x513x4096, .f32⟩
  | .hbm, ⟨74, _⟩ => ⟨S16x513x4096, .f32⟩
  | .hbm, ⟨75, _⟩ => ⟨S16x513x4096, .f32⟩
  | .hbm, ⟨76, _⟩ => ⟨S16x513x4096, .f32⟩
  | .hbm, ⟨77, _⟩ => ⟨S_, .f32⟩
  | .hbm, ⟨78, _⟩ => ⟨S16x513x4096, .f32⟩
  | .hbm, ⟨79, _⟩ => ⟨S16x513x4096, .f32⟩
  | .hbm, ⟨80, _⟩ => ⟨S16x513x4096, .f32⟩
  | .hbm, ⟨81, _⟩ => ⟨S16x513x4096, .i32⟩
  | .hbm, ⟨82, _⟩ => ⟨S_, .i32⟩
  | .hbm, ⟨83, _⟩ => ⟨S16x513x4096, .i32⟩
  | .hbm, ⟨84, _⟩ => ⟨S16x513x4096, .i32⟩
  | .hbm, ⟨85, _⟩ => ⟨S_, .i32⟩
  | .hbm, ⟨86, _⟩ => ⟨S16x513x4096, .i32⟩
  | .hbm, ⟨87, _⟩ => ⟨S16x513x4096, .i1⟩
  | .hbm, ⟨88, _⟩ => ⟨S_, .i32⟩
  | .hbm, ⟨89, _⟩ => ⟨S16x513x4096, .i32⟩
  | .hbm, ⟨90, _⟩ => ⟨S16x513x4096, .i1⟩
  | .hbm, ⟨91, _⟩ => ⟨S16x513x4096, .f32⟩
  | .hbm, ⟨92, _⟩ => ⟨S_, .i32⟩
  | .hbm, ⟨93, _⟩ => ⟨S16x513x4096, .i32⟩
  | .hbm, ⟨94, _⟩ => ⟨S16x513x4096, .i1⟩
  | .hbm, ⟨95, _⟩ => ⟨S16x513x4096, .f32⟩
  | .hbm, ⟨96, _⟩ => ⟨S16x513x4096, .f32⟩
  | .hbm, ⟨97, _⟩ => ⟨S16x513x4096, .f32⟩
  | .hbm, ⟨98, _⟩ => ⟨S16x513x4096, .f32⟩
  | .hbm, ⟨99, _⟩ => ⟨S_, .i32⟩
  | .hbm, ⟨100, _⟩ => ⟨S16x513x4096, .i32⟩
  | .hbm, ⟨101, _⟩ => ⟨S16x513x4096, .i1⟩
  | .hbm, ⟨102, _⟩ => ⟨S_, .i32⟩
  | .hbm, ⟨103, _⟩ => ⟨S16x513x4096, .i32⟩
  | .hbm, ⟨104, _⟩ => ⟨S16x513x4096, .i1⟩
  | .hbm, ⟨105, _⟩ => ⟨S_, .i32⟩
  | .hbm, ⟨106, _⟩ => ⟨S16x513x4096, .i32⟩
  | .hbm, ⟨107, _⟩ => ⟨S16x513x4096, .i1⟩
  | .hbm, ⟨108, _⟩ => ⟨S16x513x4096, .f32⟩
  | .hbm, ⟨109, _⟩ => ⟨S16x513x4096, .f32⟩
  | .hbm, ⟨110, _⟩ => ⟨S16x513x4096, .f32⟩
  | .hbm, ⟨111, _⟩ => ⟨S16x513x4096, .f32⟩
  | .hbm, ⟨112, _⟩ => ⟨S16x513x4096, .f32⟩
  | .hbm, ⟨113, _⟩ => ⟨S16x513x4096, .f32⟩
  | .hbm, ⟨114, _⟩ => ⟨S16x513x4096, .f32⟩
  | .hbm, ⟨115, _⟩ => ⟨S16x1x513x4096, .f32⟩
  | .hbm, ⟨116, _⟩ => ⟨S16x1x513x4096, .f32⟩
  | .hbm, ⟨117, _⟩ => ⟨S16x2x513x4096, .f32⟩
  | _, _ => ⟨S16x2x513x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_values : Ref sig .tc := ⟨.hbm, 7, rfl⟩
abbrev main_indices : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c : Ref sig .tc := ⟨.hbm, 82, rfl⟩
abbrev main_v64 : Ref sig .tc := ⟨.hbm, 83, rfl⟩
abbrev main_v65 : Ref sig .tc := ⟨.hbm, 84, rfl⟩
abbrev main_c_12 : Ref sig .tc := ⟨.hbm, 85, rfl⟩
abbrev main_v66 : Ref sig .tc := ⟨.hbm, 86, rfl⟩
abbrev main_v67 : Ref sig .tc := ⟨.hbm, 87, rfl⟩
abbrev main_c_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_14 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_15 : Ref sig .tc := ⟨.hbm, 99, rfl⟩
abbrev main_v77 : Ref sig .tc := ⟨.hbm, 100, rfl⟩
abbrev main_v78 : Ref sig .tc := ⟨.hbm, 101, rfl⟩
abbrev main_c_16 : Ref sig .tc := ⟨.hbm, 102, rfl⟩
abbrev main_v79 : Ref sig .tc := ⟨.hbm, 103, rfl⟩
abbrev main_v80 : Ref sig .tc := ⟨.hbm, 104, rfl⟩
abbrev main_c_17 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]
-- ==== Proof.Names.lean ====
/- The kernel's blocks, slots and semaphores under one name each, and the places at which the first region's body
   meets them at a grid point: block `n` of an array, slot `s` of a scratch buffer, cell `s` of a semaphore pair. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Regions
public import Idealize.ShloMosaic.Lib.Pipeline.RegionArraysD
public import Idealize.ShloMosaic.Lib.Pipeline.RegionArraysS
public import Idealize.ShloMosaic.Lib.Ring
public import Idealize.ShloMosaic.Lib.Affine
public import Idealize.ShloMosaic.Lib.Tactic

@[expose] public section

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipelines', beside the counters that the body's own transfers use -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Offsets -/

/-- Block `b` of an array: 64 rows of one batch entry, both planes. -/
abbrev grpOff (b : Fin 128) : Fin 4 → Nat := ![b.val / 8, 0, b.val % 8 * 64, 0]
theorem grpOff_inb (b : Fin 128) : ∀ a, grpOff b a + S1x2x64x4096.size a ≤ S16x2x513x4096.size a := by
  have := b.isLt; intro a; fin_cases a
  · show b.val / 8 + 1 ≤ 16; omega
  · show 0 + 2 ≤ 2; omega
  · show b.val % 8 * 64 + 64 ≤ 513; omega
  · show 0 + 4096 ≤ 4096; omega
abbrev slotOff (s : Fin 2) : Fin 4 → Nat := ![s.val, 0, 0, 0]
theorem slotOff_inb (s : Fin 2) : ∀ a, slotOff s a + S1x2x64x4096.size a ≤ S2x2x64x4096.size a := by
  have := s.isLt; intro a; fin_cases a
  · show s.val + 1 ≤ 2; omega
  · show 0 + 2 ≤ 2; omega
  · show 0 + 64 ≤ 64; omega
  · show 0 + 4096 ≤ 4096; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

abbrev xM : Memref sig .tc .hbm S16x2x513x4096 .f32 := Memref.whole main_arg0
abbrev oM : Memref sig .tc .hbm S16x2x513x4096 .f32 := Memref.whole main_v0
abbrev inM : Memref sig .tc .vmem S2x2x64x4096 .f32 := Memref.whole cc0_scratch0
abbrev outM : Memref sig .tc .vmem S2x2x64x4096 .f32 := Memref.whole cc0_scratch1

/-- Block `b` of an array in HBM, as the body slices and squeezes it. -/
def grpOf (M : Memref sig .tc .hbm S16x2x513x4096 .f32) (b : Fin 128) : Memref sig .tc .hbm S2x64x4096 .f32 :=
  (M.slice (Rect.unit (s := S16x2x513x4096) (grpOff b) S1x2x64x4096.size (grpOff_inb b)) (fun _ => rfl)).squeeze S2x64x4096 squeezes_S1x2x64x4096_S2x64x4096
/-- Slot `s` of a scratch buffer, as the body slices and squeezes it. -/
def slotOf (M : Memref sig .tc .vmem S2x2x64x4096 .f32) (s : Fin 2) : Memref sig .tc .vmem S2x64x4096 .f32 :=
  (M.slice (Rect.unit (s := S2x2x64x4096) (slotOff s) S1x2x64x4096.size (slotOff_inb s)) (fun _ => rfl)).squeeze S2x64x4096 squeezes_S1x2x64x4096_S2x64x4096
/-- Cell `s` of a pair of DMA semaphores. -/
def cellIn (A : DmaSems sig S2) (s : Fin 2) : DmaSems sig S_ := (A.slice (Rect.unit (s := S2) (semOff s) S1.size (semOff_inb s))).squeeze S_ squeezes_S1_S_

instance (s : Fin 2) : ClosedOff (slotOff s) := ⟨slotOff s, rfl⟩
instance (b : Fin 128) : ClosedOff (grpOff b) := ⟨grpOff b, rfl⟩

/-! ## Which block each access of the body meets at point `i` -/

/-- The grid point as a number. -/
abbrev pt (i : grid0.Coords) : ℕ := (i 0).val
theorem pt_lt (i : grid0.Coords) : pt i < 64 := (i 0).isLt

theorem off2_eq : ∀ i : grid0.Coords, k0_off2 i = grpOff (Ring.bk 128 (2 * pt i)) := by decide +kernel
theorem off1_eq : ∀ i : grid0.Coords, k0_off1 i = grpOff (Ring.bk 128 (2 * pt i + 1)) := by decide +kernel
theorem off7_eq : ∀ i : grid0.Coords, k0_off7 i = grpOff (Ring.bk 128 (2 * pt i + 1)) := by decide +kernel
theorem off6_eq : ∀ i : grid0.Coords, k0_off6 i = grpOff (Ring.bk 128 (2 * pt i)) := by decide +kernel
theorem off3_eq : ∀ i : grid0.Coords, 1 ≤ pt i → k0_off3 i = grpOff (Ring.bk 128 (2 * pt i - 2)) := by decide +kernel
theorem off5_eq : ∀ i : grid0.Coords, 1 ≤ pt i → k0_off5 i = grpOff (Ring.bk 128 (2 * pt i - 1)) := by decide +kernel
theorem off4_eq : ∀ i : grid0.Coords, pt i < 63 → k0_off4 i = grpOff (Ring.bk 128 (2 * pt i + 2)) := by decide +kernel

theorem cond2_iff : ∀ i : grid0.Coords, k0_cond2 i = 1#1 ↔ 1 ≤ pt i := by decide +kernel
theorem cond4_iff : ∀ i : grid0.Coords, k0_cond4 i = 1#1 ↔ 1 ≤ pt i := by decide +kernel
theorem cond3_iff : ∀ i : grid0.Coords, k0_cond3 i = 1#1 ↔ pt i < 63 := by decide +kernel
theorem cond5_iff : ∀ i : grid0.Coords, k0_cond5 i = 1#1 ↔ pt i = 63 := by decide +kernel

/-- The body's test for the first point. -/
abbrev cond1 (i : grid0.Coords) : BitVec 1 := Scalar.cmpi .ne (Scalar.extui (Scalar.cmpi .eq (BitVec.ofNat 32 (i 0).val) 0#32) : BitVec 32) 0#32
theorem cond1_iff : ∀ i : grid0.Coords, cond1 i = 1#1 ↔ pt i = 0 := by decide +kernel

/-! ## The names, as equations for the run -/

section Canon

theorem cell_congr (A : DmaSems sig S2) {off : Fin 1 → Nat} {s : Fin 2} (e : off = semOff s) (hh) :
    (A.slice (Rect.unit (s := S2) off S1.size hh)).squeeze S_ squeezes_S1_S_ = cellIn A s :=
  congrArg (fun A : DmaSems sig S1 => A.squeeze S_ squeezes_S1_S_) (SemArray.slice_unit_congr _ e _ _)
theorem slot_congr (M : Memref sig .tc .vmem S2x2x64x4096 .f32) {off : Fin 4 → Nat} {s : Fin 2} (e : off = slotOff s) (hh hs) :
    (M.slice (Rect.unit (s := S2x2x64x4096) off S1x2x64x4096.size hh) hs).squeeze S2x64x4096 squeezes_S1x2x64x4096_S2x64x4096 = slotOf M s :=
  congrArg (fun M : Memref sig .tc .vmem S1x2x64x4096 .f32 => M.squeeze S2x64x4096 squeezes_S1x2x64x4096_S2x64x4096) (Memref.slice_unit_congr _ e _ _ _ _)
theorem grp_congr (M : Memref sig .tc .hbm S16x2x513x4096 .f32) {off : Fin 4 → Nat} {b : Fin 128} (e : off = grpOff b) (hh hs) :
    (M.slice (Rect.unit (s := S16x2x513x4096) off S1x2x64x4096.size hh) hs).squeeze S2x64x4096 squeezes_S1x2x64x4096_S2x64x4096 = grpOf M b :=
  congrArg (fun M : Memref sig .tc .hbm S1x2x64x4096 .f32 => M.squeeze S2x64x4096 squeezes_S1x2x64x4096_S2x64x4096) (Memref.slice_unit_congr _ e _ _ _ _)

@[sl_canon] theorem semL0 (A : DmaSems sig S2) (hh) : (A.slice (Rect.unit (s := S2) ![0] S1.size hh)).squeeze S_ squeezes_S1_S_ = cellIn A 0 := cell_congr A (by decide) _
@[sl_canon] theorem semL1 (A : DmaSems sig S2) (hh) : (A.slice (Rect.unit (s := S2) ![1] S1.size hh)).squeeze S_ squeezes_S1_S_ = cellIn A 1 := cell_congr A (by decide) _
@[sl_canon] theorem slotL0 (M : Memref sig .tc .vmem S2x2x64x4096 .f32) (hh hs) : (M.slice (Rect.unit (s := S2x2x64x4096) ![0, 0, 0, 0] S1x2x64x4096.size hh) hs).squeeze S2x64x4096 squeezes_S1x2x64x4096_S2x64x4096 = slotOf M 0 := slot_congr M (by decide) _ _
@[sl_canon] theorem slotL1 (M : Memref sig .tc .vmem S2x2x64x4096 .f32) (hh hs) : (M.slice (Rect.unit (s := S2x2x64x4096) ![1, 0, 0, 0] S1x2x64x4096.size hh) hs).squeeze S2x64x4096 squeezes_S1x2x64x4096_S2x64x4096 = slotOf M 1 := slot_congr M (by decide) _ _
@[sl_canon] theorem grpL0 (M : Memref sig .tc .hbm S16x2x513x4096 .f32) (hh hs) : (M.slice (Rect.unit (s := S16x2x513x4096) ![0, 0, 0, 0] S1x2x64x4096.size hh) hs).squeeze S2x64x4096 squeezes_S1x2x64x4096_S2x64x4096 = grpOf M (Ring.bk 128 0) := grp_congr M (by decide) _ _
@[sl_canon] theorem grpE1 (M : Memref sig .tc .hbm S16x2x513x4096 .f32) (i : grid0.Coords) (hh hs) :
    (M.slice (Rect.unit (s := S16x2x513x4096) (k0_off1 i) S1x2x64x4096.size hh) hs).squeeze S2x64x4096 squeezes_S1x2x64x4096_S2x64x4096 = grpOf M (Ring.bk 128 (2 * pt i + 1)) := grp_congr M (off1_eq i) _ _
@[sl_canon] theorem grpE2 (M : Memref sig .tc .hbm S16x2x513x4096 .f32) (i : grid0.Coords) (h : 1 ≤ pt i) (hh hs) :
    (M.slice (Rect.unit (s := S16x2x513x4096) (k0_off2 i) S1x2x64x4096.size hh) hs).squeeze S2x64x4096 squeezes_S1x2x64x4096_S2x64x4096 = grpOf M (Ring.bk 128 (2 * pt i)) := grp_congr M (off2_eq i) _ _
@[sl_canon] theorem grpE2z (M : Memref sig .tc .hbm S16x2x513x4096 .f32) (i : grid0.Coords) (h : pt i = 0) (hh hs) :
    (M.slice (Rect.unit (s := S16x2x513x4096) (k0_off2 i) S1x2x64x4096.size hh) hs).squeeze S2x64x4096 squeezes_S1x2x64x4096_S2x64x4096 = grpOf M (Ring.bk 128 0) := grp_congr M ((off2_eq i).trans (by rw [h])) _ _
@[sl_canon] theorem grpE3 (M : Memref sig .tc .hbm S16x2x513x4096 .f32) (i : grid0.Coords) (h : 1 ≤ pt i) (hh hs) :
    (M.slice (Rect.unit (s := S16x2x513x4096) (k0_off3 i) S1x2x64x4096.size hh) hs).squeeze S2x64x4096 squeezes_S1x2x64x4096_S2x64x4096 = grpOf M (Ring.bk 128 (2 * pt i - 2)) := grp_congr M (off3_eq i h) _ _
@[sl_canon] theorem grpE4 (M : Memref sig .tc .hbm S16x2x513x4096 .f32) (i : grid0.Coords) (h : pt i < 63) (hh hs) :
    (M.slice (Rect.unit (s := S16x2x513x4096) (k0_off4 i) S1x2x64x4096.size hh) hs).squeeze S2x64x4096 squeezes_S1x2x64x4096_S2x64x4096 = grpOf M (Ring.bk 128 (2 * pt i + 2)) := grp_congr M (off4_eq i h) _ _
@[sl_canon] theorem grpE5 (M : Memref sig .tc .hbm S16x2x513x4096 .f32) (i : grid0.Coords) (h : 1 ≤ pt i) (hh hs) :
    (M.slice (Rect.unit (s := S16x2x513x4096) (k0_off5 i) S1x2x64x4096.size hh) hs).squeeze S2x64x4096 squeezes_S1x2x64x4096_S2x64x4096 = grpOf M (Ring.bk 128 (2 * pt i - 1)) := grp_congr M (off5_eq i h) _ _
@[sl_canon] theorem grpE6 (M : Memref sig .tc .hbm S16x2x513x4096 .f32) (i : grid0.Coords) (h : 1 ≤ pt i) (hh hs) :
    (M.slice (Rect.unit (s := S16x2x513x4096) (k0_off6 i) S1x2x64x4096.size hh) hs).squeeze S2x64x4096 squeezes_S1x2x64x4096_S2x64x4096 = grpOf M (Ring.bk 128 (2 * pt i)) := grp_congr M (off6_eq i) _ _
@[sl_canon] theorem grpE6z (M : Memref sig .tc .hbm S16x2x513x4096 .f32) (i : grid0.Coords) (h : pt i = 0) (hh hs) :
    (M.slice (Rect.unit (s := S16x2x513x4096) (k0_off6 i) S1x2x64x4096.size hh) hs).squeeze S2x64x4096 squeezes_S1x2x64x4096_S2x64x4096 = grpOf M (Ring.bk 128 0) := grp_congr M ((off6_eq i).trans (by rw [h])) _ _
@[sl_canon] theorem grpE7 (M : Memref sig .tc .hbm S16x2x513x4096 .f32) (i : grid0.Coords) (hh hs) :
    (M.slice (Rect.unit (s := S16x2x513x4096) (k0_off7 i) S1x2x64x4096.size hh) hs).squeeze S2x64x4096 squeezes_S1x2x64x4096_S2x64x4096 = grpOf M (Ring.bk 128 (2 * pt i + 1)) := grp_congr M (off7_eq i) _ _

end Canon

/-! ## The pieces: a block home, a slot held, a cell at zero, a transfer in flight -/

section Pieces
variable (c : Dev nD) (X : Buf (Elt F) (xM.view.loc (c : Thread nD τ)))

/-- A cell at zero. -/
abbrev cellP (A : DmaSems sig S2) (s : Fin 2) : sProp 𝕄 := semVal ((c : Thread nD τ), SemLoc.dma (cellIn A s).sem) 0
/-- Slot `s` of the input buffer, held at `f`; -/
abbrev inP (s : Fin 2) (f : Buf (Elt F) ((slotOf inM s).view.loc (c : Thread nD τ))) : sProp 𝕄 :=
  (slotOf inM s).view.loc (c : Thread nD τ) ↦[(slotOf inM s).view.set]{fullShare} f
/-- of the output buffer. -/
abbrev outP (s : Fin 2) (f : Buf (Elt F) ((slotOf outM s).view.loc (c : Thread nD τ))) : sProp 𝕄 :=
  (slotOf outM s).view.loc (c : Thread nD τ) ↦[(slotOf outM s).view.set]{fullShare} f
/-- Block `b` of the argument, held at the argument's contents; -/
abbrev xP (b : Fin 128) : sProp 𝕄 := (grpOf xM b).view.loc (c : Thread nD τ) ↦[(grpOf xM b).view.set]{fullShare} X
/-- of the first region's result, at contents `Y`. -/
abbrev oP (Y : Buf (Elt F) (oM.view.loc (c : Thread nD τ))) (b : Fin 128) : sProp 𝕄 :=
  (grpOf oM b).view.loc (c : Thread nD τ) ↦[(grpOf oM b).view.set]{fullShare} Y
/-- The words of block `b`. -/
abbrev xWords (b : Fin 128) : S2x64x4096.Idx → Elt F .f32 := ReadAs.same.apply ((grpOf xM b).view.read (Elt F) X)
/-- Slot `s` once block `b` has landed over `f`. -/
abbrev landed (s : Fin 2) (b : Fin 128) (f : Buf (Elt F) ((slotOf inM s).view.loc (c : Thread nD τ))) : Buf (Elt F) ((slotOf inM s).view.loc (c : Thread nD τ)) :=
  (slotOf inM s).view.writes (Elt F) f [⟨Rect.whole S2x64x4096, xWords c X b⟩]
/-- A transfer of block `b` into slot `s`, in flight. -/
abbrev inFl (s : Fin 2) (b : Fin 128) (f : Buf (Elt F) ((slotOf inM s).view.loc (c : Thread nD τ))) : sProp 𝕄 :=
  Transfers.Flight countersEmb (c : Thread nD τ) (SemLoc.dma (cellIn cc0_scratch2 s).sem) () 65536 iprop(inP c s (landed c X s b f) ∗ xP c X b)
/-- A transfer of slot `s`, held at `f`, into block `b`, which it leaves at `Y`. -/
abbrev outFl (s : Fin 2) (b : Fin 128) (Y : Buf (Elt F) (oM.view.loc (c : Thread nD τ))) (f : Buf (Elt F) ((slotOf outM s).view.loc (c : Thread nD τ))) : sProp 𝕄 :=
  Transfers.Flight countersEmb (c : Thread nD τ) (SemLoc.dma (cellIn cc0_scratch3 s).sem) () 65536 iprop(oP c Y b ∗ outP c s f)

end Pieces

end Cert.Proof.Run

end
-- ==== Proof.Spec.lean ====
/-
  The arithmetic of one block of rows, written once for every number of rows: the words of the powers, the two searches
  for the 64th smallest word, the noise level, and the magnitude over it turned by the phase. The operations are those of
  the printed vectors; a step of a search is a function that is iterated.
-/
module

public import proofs.«01_k».proof.Proof.Gen.Kernel.Skeleton

@[expose] public section

noncomputable section

namespace Cert.Proof.Spec

open Idealize.ShloMosaic

variable {F : FTy → Type} [FloatOps F]

/-- A block of `R` rows of `n` lanes. -/
abbrev Sq (R n : ℕ) : Shape := ⟨2, ![R, n]⟩
/-- One value per row. -/
abbrev Ln (R : ℕ) : Shape := ⟨1, ![R]⟩

/-- The facts about shapes that the vector operations ask for. -/
class Fits (R : ℕ) : Prop where
  up : (Sq R 1).Broadcasts (Sq R 4096)
  lo2048 : (Sq R 4096).Slices ![0, 0] (Sq R 2048)
  hi2048 : (Sq R 4096).Slices ![0, 2048] (Sq R 2048)
  lo1024 : (Sq R 2048).Slices ![0, 0] (Sq R 1024)
  hi1024 : (Sq R 2048).Slices ![0, 1024] (Sq R 1024)
  lo512 : (Sq R 1024).Slices ![0, 0] (Sq R 512)
  hi512 : (Sq R 1024).Slices ![0, 512] (Sq R 512)
  lo256 : (Sq R 512).Slices ![0, 0] (Sq R 256)
  hi256 : (Sq R 512).Slices ![0, 256] (Sq R 256)
  lo128 : (Sq R 256).Slices ![0, 0] (Sq R 128)
  hi128 : (Sq R 256).Slices ![0, 128] (Sq R 128)
  red128 : (Sq R 128).Reduces [1] (Ln R)
  red4096 : (Sq R 4096).Reduces [1] (Ln R)
  col : (Ln R).ShapeCasts (Sq R 1)

variable {R : ℕ} [h : Fits R]

/-- One bit of the search for the word of a power: the bit is set where the word so far with the bit is at most the power. -/
def bitStep (p : FVec F (Sq R 4096) .f32) (w : IVec (Sq R 4096) 32) (b : BitVec 32) : IVec (Sq R 4096) 32 :=
  select (cmpf .ole (bitcastToFloat .f32 (addi w (broadcast (Sq R 4096) b))) p) (addi w (broadcast (Sq R 4096) b)) w

/-- The word of a power, bit 30 to bit 0. -/
def word (p : FVec F (Sq R 4096) .f32) : IVec (Sq R 4096) 32 :=
  bitStep p (bitStep p (bitStep p (bitStep p (bitStep p (bitStep p (bitStep p (bitStep p (bitStep p (bitStep p (bitStep p
    (bitStep p (bitStep p (bitStep p (bitStep p (bitStep p (bitStep p (bitStep p (bitStep p (bitStep p (bitStep p (bitStep p
    (bitStep p (bitStep p (bitStep p (bitStep p (bitStep p (bitStep p (bitStep p (bitStep p (bitStep p
    (broadcast (Sq R 4096) 0#32) 1073741824#32) 536870912#32) 268435456#32) 134217728#32) 67108864#32) 33554432#32)
    16777216#32) 8388608#32) 4194304#32) 2097152#32) 1048576#32) 524288#32) 262144#32) 131072#32) 65536#32) 32768#32)
    16384#32) 8192#32) 4096#32) 2048#32) 1024#32) 512#32) 256#32) 128#32) 64#32) 32#32) 16#32) 8#32) 4#32) 2#32) 1#32

/-- The upper half of a word, as sixteen bits. -/
def top (w : IVec (Sq R 4096) 32) : IVec (Sq R 4096) 16 := trunci 16 (shrsi w (broadcast (Sq R 4096) 16#32)) (by decide)
/-- The lower half of a word less 32768, as sixteen bits with a sign. -/
def low (w : IVec (Sq R 4096) 32) : IVec (Sq R 4096) 16 :=
  trunci 16 (subi (andi w (broadcast (Sq R 4096) 65535#32)) (broadcast (Sq R 4096) 32768#32)) (by decide)

def ones (b : IVec (Sq R 4096) 1) : IVec (Sq R 4096) 16 :=
  select b (broadcast (Sq R 4096) 1#16) (broadcast (Sq R 4096) 0#16)
def f2048 (v : IVec (Sq R 4096) 16) : IVec (Sq R 2048) 16 :=
  addi (extractStridedSlice (Sq R 2048) ![0, 0] v h.lo2048) (extractStridedSlice (Sq R 2048) ![0, 2048] v h.hi2048)
def f1024 (v : IVec (Sq R 2048) 16) : IVec (Sq R 1024) 16 :=
  addi (extractStridedSlice (Sq R 1024) ![0, 0] v h.lo1024) (extractStridedSlice (Sq R 1024) ![0, 1024] v h.hi1024)
def f512 (v : IVec (Sq R 1024) 16) : IVec (Sq R 512) 16 :=
  addi (extractStridedSlice (Sq R 512) ![0, 0] v h.lo512) (extractStridedSlice (Sq R 512) ![0, 512] v h.hi512)
def f256 (v : IVec (Sq R 512) 16) : IVec (Sq R 256) 16 :=
  addi (extractStridedSlice (Sq R 256) ![0, 0] v h.lo256) (extractStridedSlice (Sq R 256) ![0, 256] v h.hi256)
def f128 (v : IVec (Sq R 256) 16) : IVec (Sq R 128) 16 :=
  addi (extractStridedSlice (Sq R 128) ![0, 0] v h.lo128) (extractStridedSlice (Sq R 128) ![0, 128] v h.hi128)
/-- How many lanes of each row a mask holds in. -/
def count (b : IVec (Sq R 4096) 1) : IVec (Sq R 1) 32 :=
  shapeCast (Sq R 1) (multiReductionI .add [1] (Ln R)
    (extsi 32 (f128 (f256 (f512 (f1024 (f2048 (ones b)))))) (by decide)) 0#32 h.red128 rfl) h.col

/-- How many lanes of each row are at most the row's number. -/
def countLe (v : IVec (Sq R 4096) 16) (m : IVec (Sq R 1) 32) : IVec (Sq R 1) 32 :=
  count (cmpi .sle v (broadcastTo (Sq R 4096) (trunci 16 m (by decide)) h.up))
/-- The middle of the two ends of a search. -/
def midOf (s : IVec (Sq R 1) 32 × IVec (Sq R 1) 32) : IVec (Sq R 1) 32 :=
  addi s.1 (shrsi (subi s.2 s.1) (broadcast (Sq R 1) 1#32))
/-- One step of a search over sixteen bits: the half that holds the `k`th smallest. -/
def step (v : IVec (Sq R 4096) 16) (k : IVec (Sq R 1) 32) (s : IVec (Sq R 1) 32 × IVec (Sq R 1) 32) :
    IVec (Sq R 1) 32 × IVec (Sq R 1) 32 :=
  (select (cmpi .sge (countLe v (midOf s)) k) s.1 (addi (midOf s) (broadcast (Sq R 1) 1#32)),
   select (cmpi .sge (countLe v (midOf s)) k) (midOf s) s.2)
/-- The search over the upper halves, fifteen steps. -/
def topSearch (v : IVec (Sq R 4096) 16) : IVec (Sq R 1) 32 × IVec (Sq R 1) 32 :=
  (step v (broadcast (Sq R 1) 64#32))^[15] (broadcast (Sq R 1) 0#32, broadcast (Sq R 1) 32640#32)
/-- The upper half found. -/
def topAt (w : IVec (Sq R 4096) 32) : IVec (Sq R 1) 32 := (topSearch (top w)).1
def topAt16 (w : IVec (Sq R 4096) 32) : IVec (Sq R 4096) 16 :=
  broadcastTo (Sq R 4096) (trunci 16 (topAt w) (by decide)) h.up
/-- How many words are still to be found among those with the upper half found. -/
def need (w : IVec (Sq R 4096) 32) : IVec (Sq R 1) 32 :=
  subi (broadcast (Sq R 1) 64#32) (count (cmpi .slt (top w) (topAt16 w)))
/-- The lower halves of the words with the upper half found, the largest number elsewhere. -/
def lowAmong (w : IVec (Sq R 4096) 32) : IVec (Sq R 4096) 16 :=
  select (cmpi .eq (top w) (topAt16 w)) (low w) (broadcast (Sq R 4096) 32767#16)
/-- The search over the lower halves, sixteen steps. -/
def lowAt (w : IVec (Sq R 4096) 32) : IVec (Sq R 1) 32 :=
  ((step (lowAmong w) (need w))^[16] (broadcast (Sq R 1) 4294934528#32, broadcast (Sq R 1) 32767#32)).1
/-- The 64th smallest power of each row, as a float. -/
def kth (w : IVec (Sq R 4096) 32) : FVec F (Sq R 1) .f32 :=
  bitcastToFloat .f32 (ori (shli (topAt w) (broadcast (Sq R 1) 16#32)) (addi (lowAt w) (broadcast (Sq R 1) 32768#32)))

/-- One where a power is below the row's 64th smallest, zero elsewhere. -/
def below (p : FVec F (Sq R 4096) .f32) (t : FVec F (Sq R 1) .f32) : FVec F (Sq R 4096) .f32 :=
  sitofp .f32 (extui 32 (cmpf .olt p (broadcastTo (Sq R 4096) t h.up)) (by decide))
/-- The sum of each row. -/
def rowSum (v : FVec F (Sq R 4096) .f32) : FVec F (Sq R 1) .f32 :=
  shapeCast (Sq R 1) (multiReduction .add [1] (Ln R) v 0x00000000#32 h.red4096 (.inl rfl) rfl) h.col
/-- The noise level from the 64th smallest power: the powers below it and copies of it up to 64, over 64. -/
def noiseOf (p : FVec F (Sq R 4096) .f32) (t : FVec F (Sq R 1) .f32) : FVec F (Sq R 1) .f32 :=
  mulf (addf (rowSum (mulf p (below p t)))
      (mulf (subf (broadcast (Sq R 1) (Scalar.ofBits .f32 0x42800000#32)) (rowSum (below p t))) t))
    (broadcast (Sq R 1) (Scalar.ofBits .f32 0x3C800000#32))
def noise (p : FVec F (Sq R 4096) .f32) : FVec F (Sq R 1) .f32 := noiseOf p (kth (word p))
/-- The magnitude over the noise level, zero where it is below. -/
def over (mag : FVec F (Sq R 4096) .f32) : FVec F (Sq R 4096) .f32 :=
  maximumf (subf mag (broadcastTo (Sq R 4096) (noise (mulf mag mag)) h.up))
    (broadcast (Sq R 4096) (Scalar.ofBits .f32 0x00000000#32))

/-- The number of quarter turns in a phase. -/
def turns (ph : FVec F (Sq R 4096) .f32) : FVec F (Sq R 4096) .f32 :=
  roundeven (mulf ph (broadcast (Sq R 4096) (Scalar.ofBits .f32 0x3F22F983#32)))
def turnsI (ph : FVec F (Sq R 4096) .f32) : IVec (Sq R 4096) 32 := fptosi 32 (turns ph)
/-- The phase without its quarter turns. -/
def rest (ph : FVec F (Sq R 4096) .f32) : FVec F (Sq R 4096) .f32 :=
  subf (subf ph (mulf (turns ph) (broadcast (Sq R 4096) (Scalar.ofBits .f32 0x3FC90FDB#32))))
    (mulf (turns ph) (broadcast (Sq R 4096) (Scalar.ofBits .f32 0xB33BBD2E#32)))
def rest2 (ph : FVec F (Sq R 4096) .f32) : FVec F (Sq R 4096) .f32 := mulf (rest ph) (rest ph)
/-- One step of a polynomial: a coefficient and the square times what comes after. -/
def horner (q v : FVec F (Sq R 4096) .f32) (b : BitVec 32) : FVec F (Sq R 4096) .f32 :=
  addf (broadcast (Sq R 4096) (Scalar.ofBits .f32 b)) (mulf q v)
def cosP (ph : FVec F (Sq R 4096) .f32) : FVec F (Sq R 4096) .f32 :=
  horner (rest2 ph) (horner (rest2 ph) (horner (rest2 ph) (horner (rest2 ph)
    (broadcast (Sq R 4096) (Scalar.ofBits .f32 0x37D00D01#32)) 0xBAB60B61#32) 0x3D2AAAAB#32) 0xBF000000#32) 0x3F800000#32
def sinP (ph : FVec F (Sq R 4096) .f32) : FVec F (Sq R 4096) .f32 :=
  mulf (rest ph) (horner (rest2 ph) (horner (rest2 ph) (horner (rest2 ph)
    (broadcast (Sq R 4096) (Scalar.ofBits .f32 0xB9500D01#32)) 0x3C088889#32) 0xBE2AAAAB#32) 0x3F800000#32)
def bitOf (i : IVec (Sq R 4096) 32) (b : BitVec 32) : IVec (Sq R 4096) 1 :=
  cmpi .ne (andi i (broadcast (Sq R 4096) b)) (broadcast (Sq R 4096) 0#32)
def sign (b : IVec (Sq R 4096) 1) : FVec F (Sq R 4096) .f32 :=
  select b (broadcast (Sq R 4096) (Scalar.ofBits .f32 0xBF800000#32)) (broadcast (Sq R 4096) (Scalar.ofBits .f32 0x3F800000#32))
/-- The cosine of a phase as the polynomials give it. -/
def cosV (ph : FVec F (Sq R 4096) .f32) : FVec F (Sq R 4096) .f32 :=
  mulf (select (bitOf (turnsI ph) 1#32) (sinP ph) (cosP ph))
    (sign (bitOf (addi (turnsI ph) (broadcast (Sq R 4096) 1#32)) 2#32))
/-- The sine of a phase as the polynomials give it. -/
def sinV (ph : FVec F (Sq R 4096) .f32) : FVec F (Sq R 4096) .f32 :=
  mulf (select (bitOf (turnsI ph) 1#32) (cosP ph) (sinP ph)) (sign (bitOf (turnsI ph) 2#32))
/-- The real part of a block. -/
def re (mag ph : FVec F (Sq R 4096) .f32) : FVec F (Sq R 4096) .f32 := mulf (over mag) (cosV ph)
/-- The imaginary part of a block. -/
def im (mag ph : FVec F (Sq R 4096) .f32) : FVec F (Sq R 4096) .f32 := mulf (over mag) (sinV ph)

instance fits8 : Fits 8 where
  up := by decide
  lo2048 := by decide
  hi2048 := by decide
  lo1024 := by decide
  hi1024 := by decide
  lo512 := by decide
  hi512 := by decide
  lo256 := by decide
  hi256 := by decide
  lo128 := by decide
  hi128 := by decide
  red128 := by decide
  red4096 := by decide
  col := by decide

instance fits64 : Fits 64 where
  up := by decide
  lo2048 := by decide
  hi2048 := by decide
  lo1024 := by decide
  hi1024 := by decide
  lo512 := by decide
  hi512 := by decide
  lo256 := by decide
  hi256 := by decide
  lo128 := by decide
  hi128 := by decide
  red128 := by decide
  red4096 := by decide
  col := by decide

end Cert.Proof.Spec

end
-- ==== Proof.Blocks.lean ====
/- What a block of the argument turns into: the words that the first region's body computes from the words of a block,
   the array that they make up, and the elements that the blocks and slots name. -/
module

public import proofs.«01_k».proof.Proof.Names
public import proofs.«01_k».proof.Proof.Spec
public import Idealize.ShloMosaic.Lib.ValueLayout
public import Idealize.ShloMosaic.Lib.ValueIdx

@[expose] public section

noncomputable section

namespace Cert.Proof.Run

open Cert.Kernel Cert.Kernel.Gen
open Idealize.ShloMosaic Idealize.ShloMosaic.ValueIdx
open Idealize.ShloMosaic.TcCoe
open Cert.Proof

variable {F : FTy → Type} [FloatOps F]

/-- What a view reads at an index is what lies under it. -/
theorem heq_read {κ : Kind} {sp : Space} {s : Shape} {e : EltTy} (v : View sig κ sp s e) (f : v.ty.Contents (Elt F)) (x : s.Idx) :
    HEq (f (v.emb x)) (v.read (Elt F) f x) := (cast_heq _ _).symm

/-- What a write over a whole view leaves under an index. -/
theorem heq_writes {κ : Kind} {sp : Space} {s : Shape} {e : EltTy} (v : View sig κ sp s e) (f : v.ty.Contents (Elt F))
    (w : s.Idx → Elt F e) (x : s.Idx) : HEq (v.writes (Elt F) f [⟨Rect.whole s, w⟩] (v.emb x)) (w x) :=
  (heq_read v _ x).trans (heq_of_eq (View.read_writes_cons_hit v f (Rect.whole s) w [] x x (by simp)))

/-- What a write through a view leaves under an index. -/
theorem heq_write {κ : Kind} {sp : Space} {s : Shape} {e : EltTy} (v : View sig κ sp s e) (f : v.ty.Contents (Elt F))
    (w : s.Idx → Elt F e) (x : s.Idx) : HEq (v.write (Elt F) f w Finset.univ (v.emb x)) (w x) :=
  (heq_read v _ x).trans (heq_of_eq (View.read_write_of_mem f w (Finset.mem_univ x)))

/-! ## The elements under a slot and under a block -/

theorem inSlot_emb (s : Fin 2) (p : Fin 2) (r : Fin 64) (l : Fin 4096) :
    (slotOf inM s).view.emb (ix3 p r l) = (ix4 s p r l : S2x2x64x4096.Idx) := by
  show (Rect.unit (s := S2x2x64x4096) (slotOff s) S1x2x64x4096.size (slotOff_inb s)).emb
    (Shape.reshapeEquiv _ (ix3 p r l)) = _
  rw [reshapeEquiv_ix3_1abc]
  funext a; apply Fin.ext; fin_cases a <;> simp [Rect.unit, Rect.emb]

theorem outSlot_emb (s : Fin 2) (p : Fin 2) (r : Fin 64) (l : Fin 4096) :
    (slotOf outM s).view.emb (ix3 p r l) = (ix4 s p r l : S2x2x64x4096.Idx) := by
  show (Rect.unit (s := S2x2x64x4096) (slotOff s) S1x2x64x4096.size (slotOff_inb s)).emb
    (Shape.reshapeEquiv _ (ix3 p r l)) = _
  rw [reshapeEquiv_ix3_1abc]
  funext a; apply Fin.ext; fin_cases a <;> simp [Rect.unit, Rect.emb]

/-- The batch entry of block `b`. -/
def batchOf (b : Fin 128) : Fin 16 := ⟨b.val / 8, by omega⟩
/-- The array's row of row `r` of block `b`. -/
def rowOf (b : Fin 128) (r : Fin 64) : Fin 513 := ⟨b.val % 8 * 64 + r.val, by omega⟩

theorem grp_emb_rect (b : Fin 128) (p : Fin 2) (r : Fin 64) (l : Fin 4096) :
    (Rect.unit (s := S16x2x513x4096) (grpOff b) S1x2x64x4096.size (grpOff_inb b)).emb
      (ix4 (⟨0, Nat.one_pos⟩ : Fin 1) p r l) = (ix4 (batchOf b) p (rowOf b r) l : S16x2x513x4096.Idx) := by
  funext a; apply Fin.ext; fin_cases a <;> simp [Rect.unit, Rect.emb, batchOf, rowOf]

theorem xGrp_emb (b : Fin 128) (p : Fin 2) (r : Fin 64) (l : Fin 4096) :
    (grpOf xM b).view.emb (ix3 p r l) = (ix4 (batchOf b) p (rowOf b r) l : S16x2x513x4096.Idx) := by
  show (Rect.unit (s := S16x2x513x4096) (grpOff b) S1x2x64x4096.size (grpOff_inb b)).emb
    (Shape.reshapeEquiv _ (ix3 p r l)) = _
  rw [reshapeEquiv_ix3_1abc]; exact grp_emb_rect b p r l

theorem oGrp_emb (b : Fin 128) (p : Fin 2) (r : Fin 64) (l : Fin 4096) :
    (grpOf oM b).view.emb (ix3 p r l) = (ix4 (batchOf b) p (rowOf b r) l : S16x2x513x4096.Idx) := by
  show (Rect.unit (s := S16x2x513x4096) (grpOff b) S1x2x64x4096.size (grpOff_inb b)).emb
    (Shape.reshapeEquiv _ (ix3 p r l)) = _
  rw [reshapeEquiv_ix3_1abc]; exact grp_emb_rect b p r l

/-! ## The words of a block and what they turn into -/

/-- A plane of a block: the magnitudes (0) or the phases (1). -/
def plane (W : S2x64x4096.Idx → Elt F .f32) (p : Fin 2) : FVec F (Spec.Sq 64 4096) .f32 := fun j => W (ix3 p (j 0) (j 1))
/-- A block's result from its words. -/
def outWords (W : S2x64x4096.Idx → Elt F .f32) : S2x64x4096.Idx → Elt F .f32 := fun y =>
  if (y 0).val = 0 then Spec.re (R := 64) (plane W 0) (plane W 1) (ix2 (y 1) (y 2))
  else Spec.im (R := 64) (plane W 0) (plane W 1) (ix2 (y 1) (y 2))

/-- The block of an element of the array, for the rows below 512. -/
def blockOf (y : S16x2x513x4096.Idx) : Fin 128 := ⟨((y 0).val * 8 + (y 2).val / 64) % 128, by omega⟩

variable (c : Dev nD) (X : Buf (Elt F) (xM.view.loc (c : Thread nD τ))) (V : Buf (Elt F) (oM.view.loc (c : Thread nD τ)))

/-- The first region's result: rows below 512 from the argument's blocks, row 512 as it was. -/
def OUT : Buf (Elt F) (oM.view.loc (c : Thread nD τ)) := fun (y : S16x2x513x4096.Idx) =>
  if (y 2).val < 512 then outWords (xWords c X (blockOf y)) (ix3 (y 1) (⟨(y 2).val % 64, by omega⟩ : Fin 64) (y 3))
  else V y

/-- Where a block of the result has landed, the array is the result. -/
theorem landed_OUT (b : Fin 128) (y : S16x2x513x4096.Idx) (hy : y ∈ (grpOf oM b).view.set) :
    (grpOf oM b).view.writes (Elt F) V [⟨Rect.whole S2x64x4096, outWords (xWords c X b)⟩] y = OUT c X V y := by
  obtain ⟨x, -, rfl⟩ := Finset.mem_map.mp hy
  obtain ⟨p, r, l, rfl⟩ : ∃ p r l, x = ix3 p r l := ⟨x 0, x 1, x 2, eq_ix3 x⟩
  have hw : (grpOf oM b).view.writes (Elt F) V [⟨Rect.whole S2x64x4096, outWords (xWords c X b)⟩] ((grpOf oM b).view.emb (ix3 p r l))
      = outWords (xWords c X b) (ix3 p r l) := eq_of_heq (heq_writes (grpOf oM b).view V _ _)
  refine hw.trans ?_
  have hb : blockOf (ix4 (batchOf b) p (rowOf b r) l) = b := by
    apply Fin.ext; simp [blockOf, batchOf, rowOf]; try omega
  have hr : ((rowOf b r).val) < 512 := by simp [rowOf]; try omega
  have hm : (⟨(rowOf b r).val % 64, by omega⟩ : Fin 64) = r := by apply Fin.ext; simp [rowOf]; try omega
  have e := oGrp_emb b p r l
  show _ = OUT c X V ((grpOf oM b).view.emb (ix3 p r l))
  rw [e]
  show _ = if (rowOf b r).val < 512 then outWords (xWords c X (blockOf (ix4 (batchOf b) p (rowOf b r) l)))
    (ix3 p (⟨(rowOf b r).val % 64, by omega⟩ : Fin 64) l) else _
  rw [if_pos hr, hb, hm]

/-! ## Loads from an input slot, and the words that leave an output slot -/

theorem in_load (s p : Fin 2) (b : Fin 128) (f : Buf (Elt F) ((slotOf inM s).view.loc (c : Thread nD τ))) (hin) (r : Fin 64) (l : Fin 4096) :
    View.readAt (Elt F) inM.view (Rect.unit (s := S2x2x64x4096) ![s.val, p.val, 0, 0] S1x1x64x4096.size hin).toLoadRect (landed c X s b f)
      (ix4 (⟨0, Nat.one_pos⟩ : Fin 1) (⟨0, Nat.one_pos⟩ : Fin 1) r l) = xWords c X b (ix3 p r l) := by
  have e : (inM.view.slice (Rect.unit (s := S2x2x64x4096) ![s.val, p.val, 0, 0] S1x1x64x4096.size hin)).emb
      (ix4 (⟨0, Nat.one_pos⟩ : Fin 1) (⟨0, Nat.one_pos⟩ : Fin 1) r l) = (slotOf inM s).view.emb (ix3 p r l) := by
    rw [inSlot_emb]
    show (Rect.unit (s := S2x2x64x4096) ![s.val, p.val, 0, 0] S1x1x64x4096.size hin).emb _ = _
    funext a; apply Fin.ext; fin_cases a <;> simp [Rect.unit, Rect.emb]
  refine (congrFun (View.readAt_rect (Val := Elt F) (v := inM.view) (Rect.unit (s := S2x2x64x4096) ![s.val, p.val, 0, 0] S1x1x64x4096.size hin) (landed c X s b f)) _).trans ?_
  have h1 := (heq_read (inM.view.slice (Rect.unit (s := S2x2x64x4096) ![s.val, p.val, 0, 0] S1x1x64x4096.size hin)) (landed c X s b f)
    (ix4 (⟨0, Nat.one_pos⟩ : Fin 1) (⟨0, Nat.one_pos⟩ : Fin 1) r l)).symm
  rw [e] at h1
  exact eq_of_heq (h1.trans (heq_writes (slotOf inM s).view f _ _))

/-- A slot whose two planes have been stored reads as them. -/
theorem out_read (s : Fin 2) (f : Buf (Elt F) ((slotOf outM s).view.loc (c : Thread nD τ))) (A B : S1x1x64x4096.Idx → Elt F .f32) (h0 h1)
    (p : Fin 2) (r : Fin 64) (l : Fin 4096) :
    (slotOf outM s).view.read (Elt F)
      (View.write (Elt F) (outM.access (Rect.unit (s := S2x2x64x4096) ![s.val, 1, 0, 0] S1x1x64x4096.size h1))
        (View.write (Elt F) (outM.access (Rect.unit (s := S2x2x64x4096) ![s.val, 0, 0, 0] S1x1x64x4096.size h0)) f A Finset.univ)
        B Finset.univ) (ix3 p r l)
      = if p.val = 0 then A (ix4 (⟨0, Nat.one_pos⟩ : Fin 1) (⟨0, Nat.one_pos⟩ : Fin 1) r l)
        else B (ix4 (⟨0, Nat.one_pos⟩ : Fin 1) (⟨0, Nat.one_pos⟩ : Fin 1) r l) := by
  have eA : (outM.access (Rect.unit (s := S2x2x64x4096) ![s.val, 0, 0, 0] S1x1x64x4096.size h0)).emb
      (ix4 (⟨0, Nat.one_pos⟩ : Fin 1) (⟨0, Nat.one_pos⟩ : Fin 1) r l) = (ix4 s 0 r l : S2x2x64x4096.Idx) := by
    show (Rect.unit (s := S2x2x64x4096) ![s.val, 0, 0, 0] S1x1x64x4096.size h0).emb _ = _
    funext a; apply Fin.ext; fin_cases a <;> simp [Rect.unit, Rect.emb]
  have eB : (outM.access (Rect.unit (s := S2x2x64x4096) ![s.val, 1, 0, 0] S1x1x64x4096.size h1)).emb
      (ix4 (⟨0, Nat.one_pos⟩ : Fin 1) (⟨0, Nat.one_pos⟩ : Fin 1) r l) = (ix4 s 1 r l : S2x2x64x4096.Idx) := by
    show (Rect.unit (s := S2x2x64x4096) ![s.val, 1, 0, 0] S1x1x64x4096.size h1).emb _ = _
    funext a; apply Fin.ext; fin_cases a <;> simp [Rect.unit, Rect.emb]
  refine eq_of_heq ((heq_read _ _ _).symm.trans ?_)
  rw [outSlot_emb]
  by_cases hp : p.val = 0
  · obtain rfl : p = 0 := Fin.ext hp
    rw [if_pos hp]
    refine HEq.trans (heq_of_eq (View.write_of_not_mem _ _ _ ?_)) ?_
    · intro hm
      obtain ⟨x, -, hx⟩ := Finset.mem_map.mp hm
      have := congrArg Fin.val (congrFun hx 1)
      have e2 : (((outM.access (Rect.unit (s := S2x2x64x4096) ![s.val, 1, 0, 0] S1x1x64x4096.size h1)).emb x) 1).val = 1 + 1 * (x 1).val := rfl
      rw [e2] at this
      exact absurd (show 1 + 1 * (x 1).val = 0 from this) (by omega)
    · rw [← eA]; exact heq_write _ _ _ _
  · obtain rfl : p = 1 := by omega
    rw [if_neg hp, ← eB]; exact heq_write _ _ _ _

end Cert.Proof.Run

end
-- ==== Proof.Runs.lean ====
/- The first region's body run at a grid point: the first, one in the middle, the last. A point in the middle takes the
   block that is landing in slot 0 and fetches the next into slot 1, sends both results out, and starts fetching the block
   after. -/
module

public import proofs.«01_k».proof.Proof.Blocks
public import Idealize.ShloMosaic.Lib.Tactic.Stretches

@[expose] public section

noncomputable section

namespace Cert.Proof.Run

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof

variable {F : FTy → Type} [FloatOps F]
local notation "𝕄" => MT nD τ sig Unit (Elt F) ℕ (UU nD τ) ℕ

/-- The body at a grid point. -/
abbrev bodyG (i : grid0.Coords) : Prog (TpuEff nD τ sig (Elt F) Λ₀ .tc) PUnit :=
  cc0__main_body i (Memref.whole main_arg0) (Memref.isWhole_whole _) (Memref.whole main_v0) (Memref.isWhole_whole _) (Memref.whole cc0_scratch0) (Memref.isWhole_whole _) (Memref.whole cc0_scratch1) (Memref.isWhole_whole _) cc0_scratch2 cc0_scratch3

variable (c : Dev nD) (X : Buf (Elt F) (xM.view.loc (c : Thread nD τ))) (V : Buf (Elt F) (oM.view.loc (c : Thread nD τ)))

/-- A plane of a block as the body loads it from a slot. -/
theorem load_plane (s p : Fin 2) (b : Fin 128) (f : Buf (Elt F) ((slotOf inM s).view.loc (c : Thread nD τ))) (hin) :
    (shapeCast (Spec.Sq 64 4096) (View.readAt (Elt F) inM.view (Rect.unit (s := S2x2x64x4096) ![s.val, p.val, 0, 0] S1x1x64x4096.size hin).toLoadRect
      (landed c X s b f)) shapeCasts_S1x1x64x4096_S64x4096 : FVec F (Spec.Sq 64 4096) .f32) = plane (xWords c X b) p := by
  funext j
  obtain ⟨r, l, rfl⟩ : ∃ r l, j = ix2 r l := ⟨j 0, j 1, eq_ix2 j⟩
  refine Eq.trans ?_ (in_load c X s p b f hin r l)
  show View.readAt _ _ _ _ (Shape.reshapeEquiv _ (ix2 r l)) = _
  rw [reshapeEquiv_ix2_11ab]

theorem uncast (x : FVec F (Spec.Sq 64 4096) .f32) (r : Fin 64) (l : Fin 4096) :
    shapeCast S1x1x64x4096 x shapeCasts_S64x4096_S1x1x64x4096 (ix4 (⟨0, Nat.one_pos⟩ : Fin 1) (⟨0, Nat.one_pos⟩ : Fin 1) r l) = x (ix2 r l) := by
  show x (Shape.reshapeEquiv _ _) = _
  refine congrArg x ?_
  rw [← reshapeEquiv_ix2_11ab (shapeCasts_S64x4096_S1x1x64x4096 : S64x4096.ShapeCasts S1x1x64x4096).symm r l]
  exact Equiv.symm_apply_apply (Shape.reshapeEquiv _) _

theorem plane_inb (s p : Fin 2) : ∀ a, (![s.val, p.val, 0, 0] : Fin 4 → Nat) a + S1x1x64x4096.size a ≤ S2x2x64x4096.size a := by
  revert s p; decide

/-- What leaves an output slot whose planes were stored from the planes of an input slot is the block's result. -/
theorem stored_eq (s : Fin 2) (b : Fin 128) (f : Buf (Elt F) ((slotOf inM s).view.loc (c : Thread nD τ)))
    (g : Buf (Elt F) ((slotOf outM s).view.loc (c : Thread nD τ))) (A B : S1x1x64x4096.Idx → Elt F .f32) (h0 h1)
    (M P : FVec F (Spec.Sq 64 4096) .f32)
    (hM : M = shapeCast (Spec.Sq 64 4096) (View.readAt (Elt F) inM.view (Rect.unit (s := S2x2x64x4096) ![s.val, (0 : Fin 2).val, 0, 0] S1x1x64x4096.size (plane_inb s 0)).toLoadRect (landed c X s b f)) shapeCasts_S1x1x64x4096_S64x4096)
    (hP : P = shapeCast (Spec.Sq 64 4096) (View.readAt (Elt F) inM.view (Rect.unit (s := S2x2x64x4096) ![s.val, (1 : Fin 2).val, 0, 0] S1x1x64x4096.size (plane_inb s 1)).toLoadRect (landed c X s b f)) shapeCasts_S1x1x64x4096_S64x4096)
    (hAB : (A, B) = (shapeCast S1x1x64x4096 (Spec.re (R := 64) M P) shapeCasts_S64x4096_S1x1x64x4096,
      shapeCast S1x1x64x4096 (Spec.im (R := 64) M P) shapeCasts_S64x4096_S1x1x64x4096)) :
    (slotOf outM s).view.read (Elt F)
      (View.write (Elt F) (outM.access (Rect.unit (s := S2x2x64x4096) ![s.val, 1, 0, 0] S1x1x64x4096.size h1))
        (View.write (Elt F) (outM.access (Rect.unit (s := S2x2x64x4096) ![s.val, 0, 0, 0] S1x1x64x4096.size h0)) g A Finset.univ)
        B Finset.univ) = outWords (xWords c X b) := by
  obtain rfl := hM.trans (load_plane c X s 0 b f _)
  obtain rfl := hP.trans (load_plane c X s 1 b f _)
  obtain ⟨rfl, rfl⟩ := Prod.mk.inj hAB
  funext y
  obtain ⟨p, r, l, rfl⟩ : ∃ p r l, y = ix3 p r l := ⟨y 0, y 1, y 2, eq_ix3 y⟩
  refine (out_read c s g _ _ h0 h1 p r l).trans ?_
  rw [uncast, uncast]
  rfl

/-- The contents that a transfer out leaves in its block, by name. -/
theorem oP_landed (b : Fin 128) (w : S2x64x4096.Idx → Elt F .f32) (hw : w = outWords (xWords c X b)) :
    (((grpOf oM b).view.loc (c : Thread nD τ) ↦[(grpOf oM b).view.set]{fullShare}
      (grpOf oM b).view.writes (Elt F) V [⟨Rect.whole S2x64x4096, w⟩]) : sProp 𝕄) = oP c (OUT c X V) b := by
  subst hw
  exact pointsTo_congr fun y hy => landed_OUT c X V b y hy

/-! ## The runs -/

theorem ent_of_eq {P Q : sProp 𝕄} (e : P = Q) : P ⊢ Q := e ▸ .rfl

/-- The flight that fetches block `b'` into a slot on which block `b` had landed. -/
theorem inFl_after (s : Fin 2) (b b' : Fin 128) :
    inFl c X s b' ((slotOf inM s).view.writes (Elt F) (slotOf inM s).view.junk [⟨Rect.whole S2x64x4096, xWords c X b⟩])
      = Transfers.Flight countersEmb (c : Thread nD τ) (SemLoc.dma (cellIn cc0_scratch2 s).sem) () 65536
          iprop(((slotOf inM s).view.loc (c : Thread nD τ) ↦[(slotOf inM s).view.set]{fullShare}
                  (slotOf inM s).view.writes (Elt F) (slotOf inM s).view.junk [⟨Rect.whole S2x64x4096, xWords c X b'⟩, ⟨Rect.whole S2x64x4096, xWords c X b⟩])
                ∗ xP c X b') := by
  simp only [inFl, landed, View.writes]

set_option maxRecDepth 100000

section Mid

variable (i : grid0.Coords) (fi0 : Buf (Elt F) ((slotOf inM 0).view.loc (c : Thread nD τ))) (fi1 : Buf (Elt F) ((slotOf inM 1).view.loc (c : Thread nD τ)))
  (fo0 : Buf (Elt F) ((slotOf outM 0).view.loc (c : Thread nD τ))) (fo1 : Buf (Elt F) ((slotOf outM 1).view.loc (c : Thread nD τ)))

/-- After a point in the middle: two blocks of the argument back, two finished blocks of the result delivered, the next
    two on their way, and the next point's block landing. -/
abbrev midPost : sProp 𝕄 :=
  iprop(xP c X (Ring.bk 128 (2 * pt i)) ∗ xP c X (Ring.bk 128 (2 * pt i + 1))
    ∗ oP c (OUT c X V) (Ring.bk 128 (2 * pt i - 2)) ∗ oP c (OUT c X V) (Ring.bk 128 (2 * pt i - 1))
    ∗ (∃ f, outFl c 0 (Ring.bk 128 (2 * pt i)) (OUT c X V) f) ∗ (∃ f, outFl c 1 (Ring.bk 128 (2 * pt i + 1)) (OUT c X V) f)
    ∗ (∃ f, inFl c X 0 (Ring.bk 128 (2 * pt i + 2)) f) ∗ (∃ f, inP c 1 f) ∗ cellP c cc0_scratch2 1
    ∗ ∃ W, owes (c : Thread nD τ) 0 W)

set_option backward.proofsInPublic true in
theorem midRun (h1 : 1 ≤ pt i) (h2 : pt i < 63) (W) :
    iprop(inFl c X 0 (Ring.bk 128 (2 * pt i)) fi0 ∗ inP c 1 fi1 ∗ cellP c cc0_scratch2 1
      ∗ outFl c 0 (Ring.bk 128 (2 * pt i - 2)) (OUT c X V) fo0 ∗ outFl c 1 (Ring.bk 128 (2 * pt i - 1)) (OUT c X V) fo1
      ∗ xP c X (Ring.bk 128 (2 * pt i + 1)) ∗ xP c X (Ring.bk 128 (2 * pt i + 2))
      ∗ oP c V (Ring.bk 128 (2 * pt i)) ∗ oP c V (Ring.bk 128 (2 * pt i + 1))
      ∗ owes (c : Thread nD τ) 0 W)
      ⊢ wp frame (wpE (defs₀ (F := F)) 𝒱₀ (c : Thread nD τ) none) Set.univ (bodyG (F := F) i) (fun _ => midPost c X V i) := by
  have hc0 : ¬ (cond1 i = 1#1) := fun h => by have := (cond1_iff i).1 h; omega
  have hc2 := (cond2_iff i).2 h1
  have hc4 := (cond4_iff i).2 h1
  have hc3 := (cond3_iff i).2 h2
  have hc5 : ¬ k0_cond5 i = 1#1 := fun h => by have := (cond5_iff i).1 h; omega
  iintro ⟨HI0, HI1, HC1, HO0, HO1, Hx1, Hx2, Ho0, Ho1, HW⟩
  dsimp only [bodyG]
  sl_exec_parts
  sl_step
  have e0 : midRun.sl.dma6 c X i fo0 = outWords (xWords c X (Ring.bk 128 (2 * pt i))) := by
    refine stored_eq c X 0 (Ring.bk 128 (2 * pt i)) (slotOf inM 0).view.junk fo0 _ _ _ _ (midRun.sl.r c X i) (midRun.sl.r_1 c X i) rfl rfl ?_
    sl_open_run
    sl_open_pay
    dsimp only [Spec.step, Spec.midOf, Spec.countLe, Spec.count, Spec.f128, Spec.f256, Spec.f512, Spec.f1024, Spec.f2048, Spec.ones,
      Spec.im, Spec.re, Spec.over, Spec.sinV, Spec.cosV, Spec.bitOf, Spec.turnsI, Spec.turns, Spec.sinP, Spec.cosP, Spec.horner, Spec.rest2, Spec.rest, Spec.sign,
      Spec.noise, Spec.noiseOf, Spec.rowSum, Spec.below, Spec.kth, Spec.word, Spec.bitStep, Spec.lowAt, Spec.topAt, Spec.lowAmong, Spec.need,
      Spec.topAt16, Spec.topSearch, Spec.low, Spec.top, Nat.iterate]
  have e1 : midRun.sl.dma12 c X i fo1 = outWords (xWords c X (Ring.bk 128 (2 * pt i + 1))) := by
    refine stored_eq c X 1 (Ring.bk 128 (2 * pt i + 1)) (slotOf inM 1).view.junk fo1 _ _ _ _ (midRun.sl.r_20 c X i) (midRun.sl.r_21 c X i) rfl rfl ?_
    sl_open_run
    sl_open_pay
    dsimp only [Spec.step, Spec.midOf, Spec.countLe, Spec.count, Spec.f128, Spec.f256, Spec.f512, Spec.f1024, Spec.f2048, Spec.ones,
      Spec.im, Spec.re, Spec.over, Spec.sinV, Spec.cosV, Spec.bitOf, Spec.turnsI, Spec.turns, Spec.sinP, Spec.cosP, Spec.horner, Spec.rest2, Spec.rest, Spec.sign,
      Spec.noise, Spec.noiseOf, Spec.rowSum, Spec.below, Spec.kth, Spec.word, Spec.bitStep, Spec.lowAt, Spec.topAt, Spec.lowAmong, Spec.need,
      Spec.topAt16, Spec.topSearch, Spec.low, Spec.top, Nat.iterate]
  rw [e0, e1, oP_landed c X V _ _ rfl, oP_landed c X V _ _ rfl]
  isplitl [HI0_src]; · iexact HI0_src
  isplitl [Hx1]; · iexact Hx1
  isplitl [HO0_dst]; · iexact HO0_dst
  isplitl [HO1_dst]; · iexact HO1_dst
  isplitl [HO0]; · iexists _; iexact HO0
  isplitl [HO1]; · iexists _; iexact HO1
  isplitl [HI0]
  · iexists ((slotOf inM 0).view.writes (Elt F) (slotOf inM 0).view.junk [⟨Rect.whole S2x64x4096, xWords c X (Ring.bk 128 (2 * pt i))⟩])
    irw [inFl_after]
    iexact HI0
  isplitl [HI1]; · iexists _; iexact HI1
  isplitl [HC1]; · iexact HC1
  iexists _; iexact HW

/-- After the first point. -/
abbrev firstPost : sProp 𝕄 :=
  iprop(xP c X (Ring.bk 128 0) ∗ xP c X (Ring.bk 128 (2 * pt i + 1))
    ∗ (∃ f, outFl c 0 (Ring.bk 128 0) (OUT c X V) f) ∗ (∃ f, outFl c 1 (Ring.bk 128 (2 * pt i + 1)) (OUT c X V) f)
    ∗ (∃ f, inFl c X 0 (Ring.bk 128 (2 * pt i + 2)) f) ∗ (∃ f, inP c 1 f) ∗ cellP c cc0_scratch2 1
    ∗ ∃ W, owes (c : Thread nD τ) 0 W)

set_option backward.proofsInPublic true in
theorem firstRun (h1 : pt i = 0) (W) :
    iprop(inP c 0 fi0 ∗ inP c 1 fi1 ∗ cellP c cc0_scratch2 0 ∗ cellP c cc0_scratch2 1 ∗ outP c 0 fo0 ∗ outP c 1 fo1
      ∗ cellP c cc0_scratch3 0 ∗ cellP c cc0_scratch3 1
      ∗ xP c X (Ring.bk 128 0) ∗ xP c X (Ring.bk 128 (2 * pt i + 1)) ∗ xP c X (Ring.bk 128 (2 * pt i + 2))
      ∗ oP c V (Ring.bk 128 0) ∗ oP c V (Ring.bk 128 (2 * pt i + 1))
      ∗ owes (c : Thread nD τ) 0 W)
      ⊢ wp frame (wpE (defs₀ (F := F)) 𝒱₀ (c : Thread nD τ) none) Set.univ (bodyG (F := F) i) (fun _ => firstPost c X V i) := by
  have hc0 : cond1 i = 1#1 := (cond1_iff i).2 h1
  have hc2 : ¬ k0_cond2 i = 1#1 := fun h => by have := (cond2_iff i).1 h; omega
  have hc4 : ¬ k0_cond4 i = 1#1 := fun h => by have := (cond4_iff i).1 h; omega
  have h2 : pt i < 63 := by omega
  have hc3 := (cond3_iff i).2 h2
  have hc5 : ¬ k0_cond5 i = 1#1 := fun h => by have := (cond5_iff i).1 h; omega
  iintro ⟨HI0, HI1, HC0, HC1, HO0, HO1, HD0, HD1, Hx0, Hx1, Hx2, Ho0, Ho1, HW⟩
  dsimp only [bodyG]
  sl_exec_parts
  sl_step
  have e0 : firstRun.sl.dma6 c X fo0 = outWords (xWords c X (Ring.bk 128 0)) := by
    refine stored_eq c X 0 (Ring.bk 128 0) (slotOf inM 0).view.junk fo0 _ _ _ _ (firstRun.sl.r c X) (firstRun.sl.r_1 c X) rfl rfl ?_
    sl_open_run
    sl_open_pay
    dsimp only [Spec.step, Spec.midOf, Spec.countLe, Spec.count, Spec.f128, Spec.f256, Spec.f512, Spec.f1024, Spec.f2048, Spec.ones,
      Spec.im, Spec.re, Spec.over, Spec.sinV, Spec.cosV, Spec.bitOf, Spec.turnsI, Spec.turns, Spec.sinP, Spec.cosP, Spec.horner, Spec.rest2, Spec.rest, Spec.sign,
      Spec.noise, Spec.noiseOf, Spec.rowSum, Spec.below, Spec.kth, Spec.word, Spec.bitStep, Spec.lowAt, Spec.topAt, Spec.lowAmong, Spec.need,
      Spec.topAt16, Spec.topSearch, Spec.low, Spec.top, Nat.iterate]
  have e1 : firstRun.sl.dma12 c X i fo1 = outWords (xWords c X (Ring.bk 128 (2 * pt i + 1))) := by
    refine stored_eq c X 1 (Ring.bk 128 (2 * pt i + 1)) (slotOf inM 1).view.junk fo1 _ _ _ _ (firstRun.sl.r_20 c X i) (firstRun.sl.r_21 c X i) rfl rfl ?_
    sl_open_run
    sl_open_pay
    dsimp only [Spec.step, Spec.midOf, Spec.countLe, Spec.count, Spec.f128, Spec.f256, Spec.f512, Spec.f1024, Spec.f2048, Spec.ones,
      Spec.im, Spec.re, Spec.over, Spec.sinV, Spec.cosV, Spec.bitOf, Spec.turnsI, Spec.turns, Spec.sinP, Spec.cosP, Spec.horner, Spec.rest2, Spec.rest, Spec.sign,
      Spec.noise, Spec.noiseOf, Spec.rowSum, Spec.below, Spec.kth, Spec.word, Spec.bitStep, Spec.lowAt, Spec.topAt, Spec.lowAmong, Spec.need,
      Spec.topAt16, Spec.topSearch, Spec.low, Spec.top, Nat.iterate]
  rw [e0, e1, oP_landed c X V _ _ rfl, oP_landed c X V _ _ rfl]
  isplitl [Hx0]; · iexact Hx0
  isplitl [Hx1]; · iexact Hx1
  isplitl [HD0]; · iexists _; iexact HD0
  isplitl [HD1]; · iexists _; iexact HD1
  isplitl [HC0]
  · iexists ((slotOf inM 0).view.writes (Elt F) (slotOf inM 0).view.junk [⟨Rect.whole S2x64x4096, xWords c X (Ring.bk 128 0)⟩])
    irw [inFl_after]
    iexact HC0
  isplitl [HI1]; · iexists _; iexact HI1
  isplitl [HC1]; · iexact HC1
  iexists _; iexact HW

/-- After the last point. -/
abbrev lastPost : sProp 𝕄 :=
  iprop(xP c X (Ring.bk 128 (2 * pt i)) ∗ xP c X (Ring.bk 128 (2 * pt i + 1))
    ∗ oP c (OUT c X V) (Ring.bk 128 (2 * pt i - 2)) ∗ oP c (OUT c X V) (Ring.bk 128 (2 * pt i - 1))
    ∗ oP c (OUT c X V) (Ring.bk 128 (2 * pt i)) ∗ oP c (OUT c X V) (Ring.bk 128 (2 * pt i + 1))
    ∗ (∃ f, inP c 0 f) ∗ (∃ f, inP c 1 f) ∗ (∃ f, outP c 0 f) ∗ (∃ f, outP c 1 f)
    ∗ cellP c cc0_scratch2 0 ∗ cellP c cc0_scratch2 1 ∗ cellP c cc0_scratch3 0 ∗ cellP c cc0_scratch3 1
    ∗ ∃ W, owes (c : Thread nD τ) 0 W)

set_option backward.proofsInPublic true in
theorem lastRun (h3 : pt i = 63) (W) :
    iprop(inFl c X 0 (Ring.bk 128 (2 * pt i)) fi0 ∗ inP c 1 fi1 ∗ cellP c cc0_scratch2 1
      ∗ outFl c 0 (Ring.bk 128 (2 * pt i - 2)) (OUT c X V) fo0 ∗ outFl c 1 (Ring.bk 128 (2 * pt i - 1)) (OUT c X V) fo1
      ∗ xP c X (Ring.bk 128 (2 * pt i + 1))
      ∗ oP c V (Ring.bk 128 (2 * pt i)) ∗ oP c V (Ring.bk 128 (2 * pt i + 1))
      ∗ owes (c : Thread nD τ) 0 W)
      ⊢ wp frame (wpE (defs₀ (F := F)) 𝒱₀ (c : Thread nD τ) none) Set.univ (bodyG (F := F) i) (fun _ => lastPost c X V i) := by
  have h1 : 1 ≤ pt i := by omega
  have hc0 : ¬ (cond1 i = 1#1) := fun h => by have := (cond1_iff i).1 h; omega
  have hc2 := (cond2_iff i).2 h1
  have hc4 := (cond4_iff i).2 h1
  have hc3 : ¬ k0_cond3 i = 1#1 := fun h => by have := (cond3_iff i).1 h; omega
  have hc5 := (cond5_iff i).2 h3
  iintro ⟨HI0, HI1, HC1, HO0, HO1, Hx1, Ho0, Ho1, HW⟩
  dsimp only [bodyG]
  sl_exec_parts
  sl_step
  have e0 : lastRun.sl.dma6 c X i fo0 = outWords (xWords c X (Ring.bk 128 (2 * pt i))) := by
    refine stored_eq c X 0 (Ring.bk 128 (2 * pt i)) (slotOf inM 0).view.junk fo0 _ _ _ _ (lastRun.sl.r c X i) (lastRun.sl.r_1 c X i) rfl rfl ?_
    sl_open_run
    sl_open_pay
    dsimp only [Spec.step, Spec.midOf, Spec.countLe, Spec.count, Spec.f128, Spec.f256, Spec.f512, Spec.f1024, Spec.f2048, Spec.ones,
      Spec.im, Spec.re, Spec.over, Spec.sinV, Spec.cosV, Spec.bitOf, Spec.turnsI, Spec.turns, Spec.sinP, Spec.cosP, Spec.horner, Spec.rest2, Spec.rest, Spec.sign,
      Spec.noise, Spec.noiseOf, Spec.rowSum, Spec.below, Spec.kth, Spec.word, Spec.bitStep, Spec.lowAt, Spec.topAt, Spec.lowAmong, Spec.need,
      Spec.topAt16, Spec.topSearch, Spec.low, Spec.top, Nat.iterate]
  have e1 : lastRun.sl.dma12 c X i fo1 = outWords (xWords c X (Ring.bk 128 (2 * pt i + 1))) := by
    refine stored_eq c X 1 (Ring.bk 128 (2 * pt i + 1)) (slotOf inM 1).view.junk fo1 _ _ _ _ (lastRun.sl.r_20 c X i) (lastRun.sl.r_21 c X i) rfl rfl ?_
    sl_open_run
    sl_open_pay
    dsimp only [Spec.step, Spec.midOf, Spec.countLe, Spec.count, Spec.f128, Spec.f256, Spec.f512, Spec.f1024, Spec.f2048, Spec.ones,
      Spec.im, Spec.re, Spec.over, Spec.sinV, Spec.cosV, Spec.bitOf, Spec.turnsI, Spec.turns, Spec.sinP, Spec.cosP, Spec.horner, Spec.rest2, Spec.rest, Spec.sign,
      Spec.noise, Spec.noiseOf, Spec.rowSum, Spec.below, Spec.kth, Spec.word, Spec.bitStep, Spec.lowAt, Spec.topAt, Spec.lowAmong, Spec.need,
      Spec.topAt16, Spec.topSearch, Spec.low, Spec.top, Nat.iterate]
  isplitl [HI0_src]; · iexact HI0_src
  isplitl [Hx1]; · iexact Hx1
  isplitl [HO0_dst]; · iexact HO0_dst
  isplitl [HO1_dst]; · iexact HO1_dst
  isplitl [Ho0]; · iapply (ent_of_eq (oP_landed c X V _ _ e0)); iexact Ho0
  isplitl [Ho1]; · iapply (ent_of_eq (oP_landed c X V _ _ e1)); iexact Ho1
  isplitl [HI0_dst]; · iexists _; iexact HI0_dst
  isplitl [HI1]; · iexists _; iexact HI1
  isplitl [HO0_src]; · iexists _; iexact HO0_src
  isplitl [HO1_src]; · iexists _; iexact HO1_src
  isplitl [HI0]; · iexact HI0
  isplitl [HC1]; · iexact HC1
  isplitl [HO0]; · iexact HO0
  isplitl [HO1]; · iexact HO1
  iexists _; iexact HW

end Mid

end Cert.Proof.Run

end
-- ==== Proof.Steps.lean ====
/- What the first region holds between two grid points, and each point's step from one such state to the next. Before
   point `t`, with `n = 2 t`: block `n` of the argument is landing in slot 0, the last two blocks of the result are on
   their way, and every other block of the two arrays is home. -/
module

public import proofs.«01_k».proof.Proof.Runs

@[expose] public section

noncomputable section

namespace Cert.Proof.Run

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (X : Buf (Elt F) (xM.view.loc (c : Thread nD τ))) (V : Buf (Elt F) (oM.view.loc (c : Thread nD τ)))

/-- Every block home, the result's at `Y`, every slot held and every cell at zero. -/
def allHome (Y : Buf (Elt F) (oM.view.loc (c : Thread nD τ))) : sProp 𝕄 :=
  iprop(bigSep Finset.univ (xP c X) ∗ bigSep Finset.univ (oP c Y)
    ∗ (∃ f, inP c 0 f) ∗ (∃ f, inP c 1 f) ∗ (∃ f, outP c 0 f) ∗ (∃ f, outP c 1 f)
    ∗ cellP c cc0_scratch2 0 ∗ cellP c cc0_scratch2 1 ∗ cellP c cc0_scratch3 0 ∗ cellP c cc0_scratch3 1)

/-- The result's contents once the blocks before `n` have been sent. -/
abbrev upTo (n : ℕ) (b : Fin 128) : sProp 𝕄 := oP c (if b.val < n then OUT c X V else V) b

/-- Between two points. -/
def between (n : ℕ) : sProp 𝕄 :=
  iprop(bigSep (Ring.homeSet 1 n) (xP c X) ∗ bigSep (Ring.homeSet 2 (n - 2)) (upTo c X V n)
    ∗ (∃ f, inFl c X 0 (Ring.bk 128 n) f) ∗ (∃ f, inP c 1 f) ∗ cellP c cc0_scratch2 1
    ∗ (∃ f, outFl c 0 (Ring.bk 128 (n - 2)) (OUT c X V) f) ∗ (∃ f, outFl c 1 (Ring.bk 128 (n - 1)) (OUT c X V) f))

omit [FloatOps F] in
theorem bigSep_two {S T : Finset (Fin 128)} {a b : Fin 128} (e : T = insert a (insert b S)) (ha : a ∉ insert b S) (hb : b ∉ S) (Φ : Fin 128 → sProp 𝕄) :
    bigSep T Φ = iprop(Φ a ∗ Φ b ∗ bigSep S Φ) := by
  rw [e, BI.bigSep_insert ha, BI.bigSep_insert hb]; rfl

/-- The blocks of the argument that stay home at a point whose blocks are `n` and `n + 1`; -/
abbrev xIdle (n : ℕ) : Finset (Fin 128) := Finset.univ.filter fun b => b.val < n ∨ n + 3 ≤ b.val
/-- of the result. -/
abbrev oIdle (n : ℕ) : Finset (Fin 128) := Finset.univ.filter fun b => b.val < n - 2 ∨ n + 2 ≤ b.val

theorem oP_idle (n : ℕ) : bigSep (oIdle n) (upTo c X V n) = bigSep (oIdle n) (upTo c X V (n + 2)) :=
  BI.bigSep_congr fun b hb => by
    have := (Finset.mem_filter.mp hb).2
    show oP c _ b = oP c _ b
    congr 1
    by_cases h : b.val < n
    · rw [if_pos h, if_pos (by omega)]
    · rw [if_neg h, if_neg (by omega)]

theorem upTo_lt (n : ℕ) (b : Fin 128) (h : b.val < n) : upTo c X V n b = oP c (OUT c X V) b := by rw [upTo, if_pos h]
theorem upTo_ge (n : ℕ) (b : Fin 128) (h : n ≤ b.val) : upTo c X V n b = oP c V b := by rw [upTo, if_neg (by omega)]

theorem bkv {n : ℕ} (h : n < 128) : (Ring.bk 128 n).val = n := Ring.bk_val h

section Sets
variable (n : ℕ)

theorem x_out (h : n + 2 < 128) : Ring.homeSet 1 n = insert (Ring.bk 128 (n + 1)) (insert (Ring.bk 128 (n + 2)) (xIdle n)) := by
  ext b; simp only [Ring.mem_homeSet, Finset.mem_insert, Finset.mem_filter, Finset.mem_univ, true_and, Fin.ext_iff, bkv h, bkv (show n + 1 < 128 by omega)]; omega
theorem x_back (h : n + 2 < 128) : Ring.homeSet 1 (n + 2) = insert (Ring.bk 128 n) (insert (Ring.bk 128 (n + 1)) (xIdle n)) := by
  ext b; simp only [Ring.mem_homeSet, Finset.mem_insert, Finset.mem_filter, Finset.mem_univ, true_and, Fin.ext_iff, bkv (show n < 128 by omega), bkv (show n + 1 < 128 by omega)]; omega
theorem o_out (h2 : 2 ≤ n) (h : n + 1 < 128) : Ring.homeSet 2 (n - 2) = insert (Ring.bk 128 n) (insert (Ring.bk 128 (n + 1)) (oIdle n)) := by
  ext b; simp only [Ring.mem_homeSet, Finset.mem_insert, Finset.mem_filter, Finset.mem_univ, true_and, Fin.ext_iff, bkv (show n < 128 by omega), bkv h]; omega
theorem o_back (h2 : 2 ≤ n) (h : n + 1 < 128) : Ring.homeSet 2 (n + 2 - 2) = insert (Ring.bk 128 (n - 2)) (insert (Ring.bk 128 (n - 1)) (oIdle n)) := by
  ext b; simp only [Ring.mem_homeSet, Finset.mem_insert, Finset.mem_filter, Finset.mem_univ, true_and, Fin.ext_iff, bkv (show n - 2 < 128 by omega), bkv (show n - 1 < 128 by omega)]; omega

theorem x_out_notMem (h : n + 2 < 128) : Ring.bk 128 (n + 1) ∉ insert (Ring.bk 128 (n + 2)) (xIdle n) ∧ Ring.bk 128 (n + 2) ∉ xIdle n := by
  simp only [Finset.mem_insert, Finset.mem_filter, Finset.mem_univ, true_and, Fin.ext_iff, bkv h, bkv (show n + 1 < 128 by omega)]; omega
theorem x_back_notMem (h : n + 2 < 128) : Ring.bk 128 n ∉ insert (Ring.bk 128 (n + 1)) (xIdle n) ∧ Ring.bk 128 (n + 1) ∉ xIdle n := by
  simp only [Finset.mem_insert, Finset.mem_filter, Finset.mem_univ, true_and, Fin.ext_iff, bkv (show n < 128 by omega), bkv (show n + 1 < 128 by omega)]; omega
theorem o_out_notMem (h : n + 1 < 128) : Ring.bk 128 n ∉ insert (Ring.bk 128 (n + 1)) (oIdle n) ∧ Ring.bk 128 (n + 1) ∉ oIdle n := by
  simp only [Finset.mem_insert, Finset.mem_filter, Finset.mem_univ, true_and, Fin.ext_iff, bkv (show n < 128 by omega), bkv h]; omega
theorem o_back_notMem (h2 : 2 ≤ n) (h : n + 1 < 128) : Ring.bk 128 (n - 2) ∉ insert (Ring.bk 128 (n - 1)) (oIdle n) ∧ Ring.bk 128 (n - 1) ∉ oIdle n := by
  simp only [Finset.mem_insert, Finset.mem_filter, Finset.mem_univ, true_and, Fin.ext_iff, bkv (show n - 2 < 128 by omega), bkv (show n - 1 < 128 by omega)]; omega

end Sets

/-- The argument's homes before a point: the two blocks that it will fetch, and the idle ones; -/
theorem xs_out (n : ℕ) (h : n + 2 < 128) : (bigSep (Ring.homeSet 1 n) (xP c X) : sProp 𝕄)
    = iprop(xP c X (Ring.bk 128 (n + 1)) ∗ xP c X (Ring.bk 128 (n + 2)) ∗ bigSep (xIdle n) (xP c X)) :=
  bigSep_two (x_out n h) (x_out_notMem n h).1 (x_out_notMem n h).2 _
/-- after it. -/
theorem xs_back (n : ℕ) (h : n + 2 < 128) : (bigSep (Ring.homeSet 1 (n + 2)) (xP c X) : sProp 𝕄)
    = iprop(xP c X (Ring.bk 128 n) ∗ xP c X (Ring.bk 128 (n + 1)) ∗ bigSep (xIdle n) (xP c X)) :=
  bigSep_two (x_back n h) (x_back_notMem n h).1 (x_back_notMem n h).2 _
theorem os_out (n : ℕ) (h2 : 2 ≤ n) (h : n + 1 < 128) : bigSep (Ring.homeSet 2 (n - 2)) (upTo c X V n)
    = iprop(oP c V (Ring.bk 128 n) ∗ oP c V (Ring.bk 128 (n + 1)) ∗ bigSep (oIdle n) (upTo c X V n)) := by
  rw [bigSep_two (o_out n h2 h) (o_out_notMem n h).1 (o_out_notMem n h).2, upTo_ge c X V n _ (bkv (show n < 128 by omega)).ge,
    upTo_ge c X V n (Ring.bk 128 (n + 1)) (by rw [bkv h]; omega)]
theorem os_back (n : ℕ) (h2 : 2 ≤ n) (h : n + 1 < 128) : bigSep (Ring.homeSet 2 (n + 2 - 2)) (upTo c X V (n + 2))
    = iprop(oP c (OUT c X V) (Ring.bk 128 (n - 2)) ∗ oP c (OUT c X V) (Ring.bk 128 (n - 1)) ∗ bigSep (oIdle n) (upTo c X V n)) := by
  rw [bigSep_two (o_back n h2 h) (o_back_notMem n h2 h).1 (o_back_notMem n h2 h).2, upTo_lt c X V (n + 2) (Ring.bk 128 (n - 2)) (by rw [bkv (show n - 2 < 128 by omega)]; omega),
    upTo_lt c X V (n + 2) (Ring.bk 128 (n - 1)) (by rw [bkv (show n - 1 < 128 by omega)]; omega), oP_idle]

/-- A point in the middle. -/
theorem midStep (i : grid0.Coords) (h1 : 1 ≤ pt i) (h2 : pt i < 63) (W) :
    iprop(between c X V (2 * pt i) ∗ owes (c : Thread nD τ) 0 W)
      ⊢ wp frame (wpE (defs₀ (F := F)) 𝒱₀ (c : Thread nD τ) none) Set.univ (bodyG (F := F) i)
          (fun _ => iprop(between c X V (2 * pt i + 2) ∗ ∃ W, owes (c : Thread nD τ) 0 W)) := by
  unfold between
  rw [xs_out c X _ (by omega), xs_back c X _ (by omega), os_out c X V _ (by omega) (by omega), os_back c X V _ (by omega) (by omega)]
  iintro ⟨⟨⟨Hx1, Hx2, Hx⟩, ⟨Ho0, Ho1, Ho⟩, ⟨%fi0, HI0⟩, ⟨%fi1, HI1⟩, HC1, ⟨%fo0, HO0⟩, ⟨%fo1, HO1⟩⟩, HW⟩
  ihave Hwp := (midRun c X V i fi0 fi1 fo0 fo1 h1 h2 W) $$ [Hx1 Hx2 Ho0 Ho1 HI0 HI1 HC1 HO0 HO1 HW]
  · isplitl [HI0]; · iexact HI0
    isplitl [HI1]; · iexact HI1
    isplitl [HC1]; · iexact HC1
    isplitl [HO0]; · iexact HO0
    isplitl [HO1]; · iexact HO1
    isplitl [Hx1]; · iexact Hx1
    isplitl [Hx2]; · iexact Hx2
    isplitl [Ho0]; · iexact Ho0
    isplitl [Ho1]; · iexact Ho1
    iexact HW
  iapply wp_wand_r
  isplitl [Hwp]; · iexact Hwp
  iintro %_ ⟨Hx0, Hx1, Ho0, Ho1, HO0, HO1, HI0, HI1, HC1, HW⟩
  isplitr [HW]
  · isplitl [Hx0 Hx1 Hx]
    · isplitl [Hx0]; · iexact Hx0
      isplitl [Hx1]; · iexact Hx1
      iexact Hx
    isplitl [Ho0 Ho1 Ho]
    · isplitl [Ho0]; · iexact Ho0
      isplitl [Ho1]; · iexact Ho1
      iexact Ho
    isplitl [HI0]; · iexact HI0
    isplitl [HI1]; · iexact HI1
    isplitl [HC1]; · iexact HC1
    isplitl [HO0]; · iexact HO0
    iexact HO1
  iexact HW

theorem xs_first (n : ℕ) (hn : n = 0) : (bigSep Finset.univ (xP c X) : sProp 𝕄) = iprop(xP c X (Ring.bk 128 n) ∗ bigSep (Ring.homeSet 1 n) (xP c X)) := by
  subst hn
  have e : (Finset.univ : Finset (Fin 128)) = insert (Ring.bk 128 0) (Ring.homeSet 1 0) := by
    ext b; simp only [Ring.mem_homeSet, Finset.mem_insert, Finset.mem_univ, true_iff, Fin.ext_iff, bkv (show 0 < 128 by omega)]; omega
  rw [e, BI.bigSep_insert (by simp only [Ring.mem_homeSet, bkv (show 0 < 128 by omega)]; omega)]; rfl

theorem os_first (n : ℕ) (hn : n = 0) : bigSep Finset.univ (oP c V)
    = iprop(oP c V (Ring.bk 128 n) ∗ oP c V (Ring.bk 128 (n + 1)) ∗ bigSep (Ring.homeSet 2 (n + 2 - 2)) (upTo c X V (n + 2))) := by
  subst hn
  have e : (Finset.univ : Finset (Fin 128)) = insert (Ring.bk 128 0) (insert (Ring.bk 128 (0 + 1)) (Ring.homeSet 2 (0 + 2 - 2))) := by
    ext b; simp only [Ring.mem_homeSet, Finset.mem_insert, Finset.mem_univ, true_iff, Fin.ext_iff, bkv (show 0 < 128 by omega), bkv (show 0 + 1 < 128 by omega)]; omega
  rw [bigSep_two e (by simp only [Ring.mem_homeSet, Finset.mem_insert, Fin.ext_iff, bkv (show 0 < 128 by omega), bkv (show 0 + 1 < 128 by omega)]; omega)
    (by simp only [Ring.mem_homeSet, bkv (show 0 + 1 < 128 by omega)]; omega)]
  rw [BI.bigSep_congr (s := Ring.homeSet 2 (0 + 2 - 2)) (Ψ := upTo c X V (0 + 2)) fun b hb => (upTo_ge c X V _ b (by
    have := (Ring.mem_homeSet 2 _ b).mp hb; omega)).symm]

theorem xs_last_out (n : ℕ) (hn : n = 126) : (bigSep (Ring.homeSet 1 n) (xP c X) : sProp 𝕄)
    = iprop(xP c X (Ring.bk 128 (n + 1)) ∗ bigSep (Finset.univ.filter fun b : Fin 128 => b.val < n) (xP c X)) := by
  subst hn
  have e : (Ring.homeSet 1 126 : Finset (Fin 128)) = insert (Ring.bk 128 (126 + 1)) (Finset.univ.filter fun b : Fin 128 => b.val < 126) := by
    ext b; have := b.isLt
    simp only [Ring.mem_homeSet, Finset.mem_insert, Finset.mem_filter, Finset.mem_univ, true_and, Fin.ext_iff, bkv (show 126 + 1 < 128 by omega)]; omega
  rw [e, BI.bigSep_insert (by simp only [Finset.mem_filter, Finset.mem_univ, true_and, bkv (show 126 + 1 < 128 by omega)]; omega)]; rfl
theorem xs_last_back (n : ℕ) (hn : n = 126) : (bigSep Finset.univ (xP c X) : sProp 𝕄)
    = iprop(xP c X (Ring.bk 128 n) ∗ xP c X (Ring.bk 128 (n + 1)) ∗ bigSep (Finset.univ.filter fun b : Fin 128 => b.val < n) (xP c X)) := by
  subst hn
  refine bigSep_two ?_ ?_ ?_ _
  · ext b; have := b.isLt
    simp only [Finset.mem_insert, Finset.mem_filter, Finset.mem_univ, true_and, true_iff, Fin.ext_iff, bkv (show 126 < 128 by omega), bkv (show 126 + 1 < 128 by omega)]; omega
  · simp only [Finset.mem_insert, Finset.mem_filter, Finset.mem_univ, true_and, Fin.ext_iff, bkv (show 126 < 128 by omega), bkv (show 126 + 1 < 128 by omega)]; omega
  · simp only [Finset.mem_filter, Finset.mem_univ, true_and, bkv (show 126 + 1 < 128 by omega)]; omega
theorem os_last (n : ℕ) (hn : n = 126) : bigSep Finset.univ (oP c (OUT c X V))
    = iprop(oP c (OUT c X V) (Ring.bk 128 n) ∗ oP c (OUT c X V) (Ring.bk 128 (n + 1)) ∗ oP c (OUT c X V) (Ring.bk 128 (n - 2)) ∗ oP c (OUT c X V) (Ring.bk 128 (n - 1))
        ∗ bigSep (oIdle n) (upTo c X V n)) := by
  subst hn
  have e : bigSep (oIdle 126) (upTo c X V 126) = bigSep (oIdle 126) (oP c (OUT c X V)) := BI.bigSep_congr fun b hb => upTo_lt c X V _ b (by
    have := (Finset.mem_filter.mp hb).2; have := b.isLt; omega)
  rw [e, bigSep_two (S := Ring.homeSet 2 126) (a := Ring.bk 128 126) (b := Ring.bk 128 (126 + 1)),
    show (Ring.homeSet 2 126 : Finset (Fin 128)) = Ring.homeSet 2 (126 + 2 - 2) from rfl,
    bigSep_two (o_back 126 (by omega) (by omega)) (o_back_notMem 126 (by omega) (by omega)).1 (o_back_notMem 126 (by omega) (by omega)).2]
  · ext b; have := b.isLt
    simp only [Ring.mem_homeSet, Finset.mem_insert, Finset.mem_univ, true_iff, Fin.ext_iff, bkv (show 126 < 128 by omega), bkv (show 126 + 1 < 128 by omega)]; omega
  · simp only [Ring.mem_homeSet, Finset.mem_insert, Fin.ext_iff, bkv (show 126 < 128 by omega), bkv (show 126 + 1 < 128 by omega)]; omega
  · simp only [Ring.mem_homeSet, bkv (show 126 + 1 < 128 by omega)]; omega

/-- The first point. -/
theorem firstStep (i : grid0.Coords) (h1 : pt i = 0) (W) :
    iprop(allHome c X V ∗ owes (c : Thread nD τ) 0 W)
      ⊢ wp frame (wpE (defs₀ (F := F)) 𝒱₀ (c : Thread nD τ) none) Set.univ (bodyG (F := F) i)
          (fun _ => iprop(between c X V (2 * pt i + 2) ∗ ∃ W, owes (c : Thread nD τ) 0 W)) := by
  have hn : 2 * pt i = 0 := by omega
  have e : Ring.bk 128 0 = Ring.bk 128 (2 * pt i) := by rw [hn]
  unfold between allHome
  rw [xs_first c X _ hn, xs_out c X _ (by omega), xs_back c X _ (by omega), os_first c X V _ hn]
  iintro ⟨⟨⟨Hx0, Hx1, Hx2, Hx⟩, ⟨Ho0, Ho1, Ho⟩, ⟨%fi0, HI0⟩, ⟨%fi1, HI1⟩, ⟨%fo0, HO0⟩, ⟨%fo1, HO1⟩, HC0, HC1, HD0, HD1⟩, HW⟩
  have hrun := firstRun c X V i fi0 fi1 fo0 fo1 h1 W
  unfold firstPost at hrun
  rw [e] at hrun
  ihave Hwp := hrun $$ [Hx0 Hx1 Hx2 Ho0 Ho1 HI0 HI1 HC0 HC1 HD0 HD1 HO0 HO1 HW]
  · isplitl [HI0]; · iexact HI0
    isplitl [HI1]; · iexact HI1
    isplitl [HC0]; · iexact HC0
    isplitl [HC1]; · iexact HC1
    isplitl [HO0]; · iexact HO0
    isplitl [HO1]; · iexact HO1
    isplitl [HD0]; · iexact HD0
    isplitl [HD1]; · iexact HD1
    isplitl [Hx0]; · iexact Hx0
    isplitl [Hx1]; · iexact Hx1
    isplitl [Hx2]; · iexact Hx2
    isplitl [Ho0]; · iexact Ho0
    isplitl [Ho1]; · iexact Ho1
    iexact HW
  iapply wp_wand_r
  isplitl [Hwp]; · iexact Hwp
  iintro %_ ⟨Hx0, Hx1, HO0, HO1, HI0, HI1, HC1, HW⟩
  isplitr [HW]
  · isplitl [Hx0 Hx1 Hx]
    · isplitl [Hx0]; · iexact Hx0
      isplitl [Hx1]; · iexact Hx1
      iexact Hx
    isplitl [Ho]; · iexact Ho
    isplitl [HI0]; · iexact HI0
    isplitl [HI1]; · iexact HI1
    isplitl [HC1]; · iexact HC1
    isplitl [HO0]; · iexact HO0
    iexact HO1
  iexact HW

/-- The last point. -/
theorem lastStep (i : grid0.Coords) (h3 : pt i = 63) (W) :
    iprop(between c X V (2 * pt i) ∗ owes (c : Thread nD τ) 0 W)
      ⊢ wp frame (wpE (defs₀ (F := F)) 𝒱₀ (c : Thread nD τ) none) Set.univ (bodyG (F := F) i)
          (fun _ => iprop(allHome c X (OUT c X V) ∗ ∃ W, owes (c : Thread nD τ) 0 W)) := by
  have hn : 2 * pt i = 126 := by omega
  unfold between allHome
  rw [xs_last_out c X _ hn, xs_last_back c X _ hn, os_out c X V _ (by omega) (by omega), os_last c X V _ hn]
  iintro ⟨⟨⟨Hx1, Hx⟩, ⟨Ho0, Ho1, Ho⟩, ⟨%fi0, HI0⟩, ⟨%fi1, HI1⟩, HC1, ⟨%fo0, HO0⟩, ⟨%fo1, HO1⟩⟩, HW⟩
  ihave Hwp := (lastRun c X V i fi0 fi1 fo0 fo1 h3 W) $$ [Hx1 Ho0 Ho1 HI0 HI1 HC1 HO0 HO1 HW]
  · isplitl [HI0]; · iexact HI0
    isplitl [HI1]; · iexact HI1
    isplitl [HC1]; · iexact HC1
    isplitl [HO0]; · iexact HO0
    isplitl [HO1]; · iexact HO1
    isplitl [Hx1]; · iexact Hx1
    isplitl [Ho0]; · iexact Ho0
    isplitl [Ho1]; · iexact Ho1
    iexact HW
  iapply wp_wand_r
  isplitl [Hwp]; · iexact Hwp
  iintro %_ ⟨Hx0, Hx1, Hp0, Hp1, Ho0, Ho1, HI0, HI1, HO0, HO1, HC0, HC1, HD0, HD1, HW⟩
  isplitr [HW]
  · isplitl [Hx0 Hx1 Hx]
    · isplitl [Hx0]; · iexact Hx0
      isplitl [Hx1]; · iexact Hx1
      iexact Hx
    isplitl [Ho0 Ho1 Hp0 Hp1 Ho]
    · isplitl [Ho0]; · iexact Ho0
      isplitl [Ho1]; · iexact Ho1
      isplitl [Hp0]; · iexact Hp0
      isplitl [Hp1]; · iexact Hp1
      iexact Ho
    isplitl [HI0]; · iexact HI0
    isplitl [HI1]; · iexact HI1
    isplitl [HO0]; · iexact HO0
    isplitl [HO1]; · iexact HO1
    isplitl [HC0]; · iexact HC0
    isplitl [HC1]; · iexact HC1
    isplitl [HD0]; · iexact HD0
    iexact HD1
  iexact HW

end Cert.Proof.Run

end
-- ==== Proof.Home.lean ====
/- The first region's buffers whole, as the blocks and slots that its body handles one at a time, and back. -/
module

public import proofs.«01_k».proof.Proof.Steps

@[expose] public section

noncomputable section

namespace Cert.Proof.Run

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof

variable {F : FTy → Type} [FloatOps F]
local notation "𝕄" => MT nD τ sig Unit (Elt F) ℕ (UU nD τ) ℕ

/-- The places of block `b`, and of slot `s`. -/
abbrev GB (b : Fin 128) : Finset S16x2x513x4096.Idx := (Rect.unit (s := S16x2x513x4096) (grpOff b) S1x2x64x4096.size (grpOff_inb b)).set
abbrev SB (s : Fin 2) : Finset S2x2x64x4096.Idx := (Rect.unit (s := S2x2x64x4096) (slotOff s) S1x2x64x4096.size (slotOff_inb s)).set

theorem xGrp_set (b : Fin 128) : (grpOf xM b).view.set = GB b := (View.set_reshape _ _).trans (View.set_slice_whole _ _)
theorem oGrp_set (b : Fin 128) : (grpOf oM b).view.set = GB b := (View.set_reshape _ _).trans (View.set_slice_whole _ _)
theorem inSlot_set (s : Fin 2) : (slotOf inM s).view.set = SB s := (View.set_reshape _ _).trans (View.set_slice_whole _ _)
theorem outSlot_set (s : Fin 2) : (slotOf outM s).view.set = SB s := (View.set_reshape _ _).trans (View.set_slice_whole _ _)

theorem mem_GB (b : Fin 128) (y : S16x2x513x4096.Idx) :
    y ∈ GB b ↔ (y 0).val = b.val / 8 ∧ b.val % 8 * 64 ≤ (y 2).val ∧ (y 2).val < b.val % 8 * 64 + 64 := by
  rw [Rect.mem_set_unit]
  have h1 : (y 1).val < 2 := (y 1).isLt
  have h3 : (y 3).val < 4096 := (y 3).isLt
  constructor
  · intro H
    have a0 : b.val / 8 ≤ (y 0).val ∧ (y 0).val < b.val / 8 + 1 := H 0
    have a2 : b.val % 8 * 64 ≤ (y 2).val ∧ (y 2).val < b.val % 8 * 64 + 64 := H 2
    omega
  · intro H i; fin_cases i
    · show b.val / 8 ≤ (y 0).val ∧ (y 0).val < b.val / 8 + 1; omega
    · show 0 ≤ (y 1).val ∧ (y 1).val < 0 + 2; omega
    · show b.val % 8 * 64 ≤ (y 2).val ∧ (y 2).val < b.val % 8 * 64 + 64; omega
    · show 0 ≤ (y 3).val ∧ (y 3).val < 0 + 4096; omega
theorem mem_SB (s : Fin 2) (y : S2x2x64x4096.Idx) : y ∈ SB s ↔ (y 0).val = s.val := by
  rw [Rect.mem_set_unit]
  have h1 : (y 1).val < 2 := (y 1).isLt
  have h2 : (y 2).val < 64 := (y 2).isLt
  have h3 : (y 3).val < 4096 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2; omega
    · show 0 ≤ (y 2).val ∧ (y 2).val < 0 + 64; omega
    · show 0 ≤ (y 3).val ∧ (y 3).val < 0 + 4096; omega

/-- The rows that no block holds. -/
abbrev tailRows : Finset S16x2x513x4096.Idx := Finset.univ \ Finset.univ.biUnion GB
theorem mem_tailRows (y : S16x2x513x4096.Idx) (h : y ∈ tailRows) : 512 ≤ (y 2).val := by
  by_contra hlt
  refine (Finset.mem_sdiff.mp h).2 (Finset.mem_biUnion.mpr ⟨⟨(y 0).val * 8 + (y 2).val / 64, ?_⟩, Finset.mem_univ _, ?_⟩)
  · have := (y 0).isLt; have h0 : (y 0).val < 16 := this; omega
  · rw [mem_GB]; dsimp only; omega

theorem GB_disjoint : ∀ b b' : Fin 128, b ≠ b' → Disjoint (GB b) (GB b') := by
  intro b b' hne; rw [Finset.disjoint_left]; intro y hy hy'; rw [mem_GB] at hy hy'
  exact hne (Fin.ext (by omega))
theorem SB_disjoint : ∀ s s' : Fin 2, s ≠ s' → Disjoint (SB s) (SB s') := by
  intro s s' hne; rw [Finset.disjoint_left]; intro y hy hy'; rw [mem_SB] at hy hy'; exact hne (Fin.ext (hy.symm.trans hy'))
theorem SB_cover : (Finset.univ : Finset (Fin 2)).biUnion SB = Finset.univ := by
  ext y; simp only [Finset.mem_biUnion, Finset.mem_univ, true_and, iff_true]; exact ⟨⟨(y 0).val, (y 0).isLt⟩, by rw [mem_SB]⟩

omit [FloatOps F] in
theorem two_slots (Φ : Fin 2 → sProp 𝕄) : bigSep Finset.univ Φ = iprop(Φ 0 ∗ Φ 1) :=
  bigSep_univ_eq_bigSepL [(0 : Fin 2), (1 : Fin 2)] (by decide) (by decide) Φ

variable (c : Dev nD)

omit [FloatOps F] in
/-- An array whole is its blocks and the rows that no block holds. -/
theorem blocks_eq (ℓ : Loc nD τ sig) (I : Fin 128 → Finset (Idx ℓ)) (hI : ∀ b b', b ≠ b' → Disjoint (I b) (I b')) (Y : Buf (Elt F) ℓ) :
    ((ℓ ↦{fullShare} Y) : sProp 𝕄) = iprop((bigSep Finset.univ fun b => ℓ ↦[I b]{fullShare} Y) ∗ (ℓ ↦[Finset.univ \ Finset.univ.biUnion I]{fullShare} Y)) := by
  rw [← Ring.pointsTo_sub_blocks (Ix := Unit) (Name := ℕ) (U := UU nD τ) (Lvl := ℕ) I hI (Finset.univ.biUnion I) rfl Y]
  conv_lhs => rw [show (Finset.univ : Finset (Idx ℓ)) = Finset.univ.biUnion I ∪ (Finset.univ \ Finset.univ.biUnion I) from
    (Finset.union_sdiff_of_subset (Finset.subset_univ _)).symm]
  exact BI.Entails.antisymm (pointsTo_union Finset.disjoint_sdiff).1 (pointsTo_union Finset.disjoint_sdiff).2

omit [FloatOps F] in
theorem xP_eq (X : Buf (Elt F) (xM.view.loc (c : Thread nD τ))) (b : Fin 128) :
    (xP c X b : sProp 𝕄) = (((c : Thread nD τ).loc main_arg0) ↦[GB b]{fullShare} X : sProp 𝕄) := congrArg (fun S => (_ ↦[S]{fullShare} X : sProp 𝕄)) (xGrp_set b)
omit [FloatOps F] in
theorem oP_eq (Y : Buf (Elt F) (oM.view.loc (c : Thread nD τ))) (b : Fin 128) :
    (oP c Y b : sProp 𝕄) = (((c : Thread nD τ).loc main_v0) ↦[GB b]{fullShare} Y : sProp 𝕄) := congrArg (fun S => (_ ↦[S]{fullShare} Y : sProp 𝕄)) (oGrp_set b)
omit [FloatOps F] in
theorem inP_eq (s : Fin 2) (f) : (inP c s f : sProp 𝕄) = (((c : Thread nD τ).loc cc0_scratch0) ↦[SB s]{fullShare} f : sProp 𝕄) :=
  congrArg (fun S => (_ ↦[S]{fullShare} f : sProp 𝕄)) (inSlot_set s)
omit [FloatOps F] in
theorem outP_eq (s : Fin 2) (f) : (outP c s f : sProp 𝕄) = (((c : Thread nD τ).loc cc0_scratch1) ↦[SB s]{fullShare} f : sProp 𝕄) :=
  congrArg (fun S => (_ ↦[S]{fullShare} f : sProp 𝕄)) (outSlot_set s)

omit [FloatOps F] in
theorem x_eq (X : Buf (Elt F) ((c : Thread nD τ).loc main_arg0)) :
    ((((c : Thread nD τ).loc main_arg0) ↦{fullShare} X) : sProp 𝕄) = iprop(bigSep Finset.univ (xP c X) ∗ (((c : Thread nD τ).loc main_arg0) ↦[tailRows]{fullShare} X)) := by
  rw [show (xP c X : Fin 128 → sProp 𝕄) = fun b => (((c : Thread nD τ).loc main_arg0) ↦[GB b]{fullShare} X : sProp 𝕄) from funext fun b => xP_eq c X b]
  exact blocks_eq ((c : Thread nD τ).loc main_arg0) GB GB_disjoint X
omit [FloatOps F] in
theorem o_eq (Y : Buf (Elt F) ((c : Thread nD τ).loc main_v0)) :
    ((((c : Thread nD τ).loc main_v0) ↦{fullShare} Y) : sProp 𝕄) = iprop(bigSep Finset.univ (oP c Y) ∗ (((c : Thread nD τ).loc main_v0) ↦[tailRows]{fullShare} Y)) := by
  rw [show (oP c Y : Fin 128 → sProp 𝕄) = fun b => (((c : Thread nD τ).loc main_v0) ↦[GB b]{fullShare} Y : sProp 𝕄) from funext fun b => oP_eq c Y b]
  exact blocks_eq ((c : Thread nD τ).loc main_v0) GB GB_disjoint Y

/-- The rows that no block holds are as they were. -/
theorem o_rest (X : Buf (Elt F) ((c : Thread nD τ).loc main_arg0)) (V : Buf (Elt F) ((c : Thread nD τ).loc main_v0)) :
    ((((c : Thread nD τ).loc main_v0) ↦[tailRows]{fullShare} V) : sProp 𝕄) = (((c : Thread nD τ).loc main_v0) ↦[tailRows]{fullShare} OUT c X V) :=
  pointsTo_congr fun y hy => by
    have h := mem_tailRows y hy
    show V y = OUT c X V y
    unfold OUT
    exact (if_neg (Nat.not_lt.mpr h)).symm

/-- A scratch buffer whole is its two slots, each at anything, and back. -/
theorem in_split : (iprop(∃ f : Buf (Elt F) ((c : Thread nD τ).loc cc0_scratch0), ((c : Thread nD τ).loc cc0_scratch0) ↦{fullShare} f) : sProp 𝕄)
    ⊢ iprop((∃ f, inP c 0 f) ∗ ∃ f, inP c 1 f) := by
  iintro ⟨%f, H⟩
  ihave H2 := (ent_of_eq ((Ring.pointsTo_blocks (Ix := Unit) (Name := ℕ) (U := UU nD τ) (Lvl := ℕ) (q := fullShare) (ℓ := (c : Thread nD τ).loc cc0_scratch0) SB SB_disjoint SB_cover f).trans (two_slots _))) $$ H
  icases H2 with ⟨H0, H1⟩
  isplitl [H0]
  · iexists f; iapply (ent_of_eq (inP_eq c 0 f).symm); iexact H0
  · iexists f; iapply (ent_of_eq (inP_eq c 1 f).symm); iexact H1
theorem out_split : (iprop(∃ f : Buf (Elt F) ((c : Thread nD τ).loc cc0_scratch1), ((c : Thread nD τ).loc cc0_scratch1) ↦{fullShare} f) : sProp 𝕄)
    ⊢ iprop((∃ f, outP c 0 f) ∗ ∃ f, outP c 1 f) := by
  iintro ⟨%f, H⟩
  ihave H2 := (ent_of_eq ((Ring.pointsTo_blocks (Ix := Unit) (Name := ℕ) (U := UU nD τ) (Lvl := ℕ) (q := fullShare) (ℓ := (c : Thread nD τ).loc cc0_scratch1) SB SB_disjoint SB_cover f).trans (two_slots _))) $$ H
  icases H2 with ⟨H0, H1⟩
  isplitl [H0]
  · iexists f; iapply (ent_of_eq (outP_eq c 0 f).symm); iexact H0
  · iexists f; iapply (ent_of_eq (outP_eq c 1 f).symm); iexact H1
theorem in_join : (iprop((∃ f, inP c 0 f) ∗ ∃ f, inP c 1 f) : sProp 𝕄)
    ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) SB SB_disjoint SB_cover f0)
  irw [two_slots]
  isplitl [H0]
  · iexists f0; iapply (ent_of_eq (inP_eq c 0 f0)); iexact H0
  · iexists f1; iapply (ent_of_eq (inP_eq c 1 f1)); iexact H1
theorem out_join : (iprop((∃ f, outP c 0 f) ∗ ∃ f, outP c 1 f) : sProp 𝕄)
    ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) SB SB_disjoint SB_cover f0)
  irw [two_slots]
  isplitl [H0]
  · iexists f0; iapply (ent_of_eq (outP_eq c 0 f0)); iexact H0
  · iexists f1; iapply (ent_of_eq (outP_eq c 1 f1)); iexact H1

/-! ## The cells that are the first region's own -/

/-- The two cells of the fetches and the two of the write-backs. -/
abbrev osem : Fin 4 → SemLoc sig := fun k => .dma (cellIn (if k.val < 2 then cc0_scratch2 else cc0_scratch3) ⟨k.val % 2, Nat.mod_lt _ (by decide)⟩).sem
theorem ownSemFacts : Pipeline.OwnSemFacts (cfg0.spec) osem := by decide

omit [FloatOps F] in
theorem ownSems0_eq : (Pipeline.ownSems0 (Ix := Unit) (Name := ℕ) (U := UU nD τ) (Lvl := ℕ) (Val := Elt F) (τ := τ) osem c : sProp 𝕄)
    = iprop(cellP c cc0_scratch2 0 ∗ cellP c cc0_scratch2 1 ∗ cellP c cc0_scratch3 0 ∗ cellP c cc0_scratch3 1) := by
  unfold Pipeline.ownSems0
  exact bigSep_univ_eq_bigSepL [(0 : Fin 4), 1, 2, 3] (by decide) (by decide) _

end Cert.Proof.Run

end
-- ==== Proof.Tail.lean ====
/- The second region's body run on its staging buffers: the block of eight rows that it is handed, spectrally floored
   by the same arithmetic as the first region's. -/
module

public import proofs.«01_k».proof.Proof.Runs

@[expose] public section

noncomputable section

namespace Cert.Proof.Run

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof

variable {F : FTy → Type} [FloatOps F]
local notation "𝕄" => MT nD τ sig Unit (Elt F) ℕ (UU nD τ) ℕ

/-- A plane of a block of eight rows. -/
def tailPlane (B : S1x2x8x4096.Idx → Elt F .f32) (p : Fin 2) : FVec F (Spec.Sq 8 4096) .f32 := fun j => B (ix4 0 p (j 0) (j 1))
/-- What the body makes of a block. -/
def tailOut (B : S1x2x8x4096.Idx → Elt F .f32) (y : S1x2x8x4096.Idx) : Elt F .f32 :=
  if (y 1).val = 0 then Spec.re (R := 8) (tailPlane B 0) (tailPlane B 1) (ix2 (y 2) (y 3))
  else Spec.im (R := 8) (tailPlane B 0) (tailPlane B 1) (ix2 (y 2) (y 3))

variable (c : Dev nD) (i : grid1.Coords)
  (a1 : Memref sig .tc .vmem S1x2x8x4096 .f32) (h1 : a1.IsWhole) (a2 : Memref sig .tc .vmem S1x2x8x4096 .f32) (h2 : a2.IsWhole)
  (a3 : Memref sig .tc .vmem S1x2x8x4096 .f32) (h3 : a3.IsWhole)

/-- A staging buffer's contents in the body's view of it. -/
abbrev tailP (a : Memref sig .tc .vmem S1x2x8x4096 .f32) (f : Buf (Elt F) (a.view.loc (c : Thread nD τ))) : sProp 𝕄 :=
  iprop(a.view.loc (c : Thread nD τ) ↦[a.view.set]{fullShare} f)

theorem tail_inb (p : Fin 2) : ∀ a, (![0, p.val, 0, 0] : Fin 4 → Nat) a + S1x1x8x4096.size a ≤ S1x2x8x4096.size a := by
  revert p; decide

omit [FloatOps F] in
/-- A plane of the block as the body loads it. -/
theorem tail_load (p : Fin 2) (f : Buf (Elt F) (a1.view.loc (c : Thread nD τ))) (hin) :
    (shapeCast (Spec.Sq 8 4096) (View.readAt (Elt F) a1.view (Rect.unit (s := S1x2x8x4096) ![0, p.val, 0, 0] S1x1x8x4096.size hin).toLoadRect f)
      shapeCasts_S1x1x8x4096_S8x4096 : FVec F (Spec.Sq 8 4096) .f32) = tailPlane (a1.view.read (Elt F) f) p := by
  funext j
  obtain ⟨r, l, rfl⟩ : ∃ r l, j = ix2 r l := ⟨j 0, j 1, eq_ix2 j⟩
  show View.readAt _ _ _ _ (Shape.reshapeEquiv _ (ix2 r l)) = _
  rw [reshapeEquiv_ix2_11ab]
  refine congrArg (a1.view.read (Elt F) f) ?_
  show (Rect.unit (s := S1x2x8x4096) ![0, p.val, 0, 0] S1x1x8x4096.size hin).emb _ = _
  funext a; apply Fin.ext; fin_cases a <;> simp [Rect.unit, Rect.emb]

omit [FloatOps F] in
theorem tail_uncast (x : FVec F (Spec.Sq 8 4096) .f32) (r : Fin 8) (l : Fin 4096) :
    shapeCast S1x1x8x4096 x shapeCasts_S8x4096_S1x1x8x4096 (ix4 (⟨0, Nat.one_pos⟩ : Fin 1) (⟨0, Nat.one_pos⟩ : Fin 1) r l) = x (ix2 r l) := by
  show x (Shape.reshapeEquiv _ _) = _
  refine congrArg x ?_
  rw [← reshapeEquiv_ix2_11ab (shapeCasts_S8x4096_S1x1x8x4096 : S8x4096.ShapeCasts S1x1x8x4096).symm r l]
  exact Equiv.symm_apply_apply (Shape.reshapeEquiv _) _

/-- A buffer whose two planes were stored from the planes of the block reads as the block's result. -/
theorem tail_stored (f1 : Buf (Elt F) (a1.view.loc (c : Thread nD τ))) (f3 : Buf (Elt F) (a3.view.loc (c : Thread nD τ)))
    (A B : S1x1x8x4096.Idx → Elt F .f32) (h0 h1') (M P : FVec F (Spec.Sq 8 4096) .f32)
    (hM : M = shapeCast (Spec.Sq 8 4096) (View.readAt (Elt F) a1.view (Rect.unit (s := S1x2x8x4096) ![0, (0 : Fin 2).val, 0, 0] S1x1x8x4096.size (tail_inb 0)).toLoadRect f1) shapeCasts_S1x1x8x4096_S8x4096)
    (hP : P = shapeCast (Spec.Sq 8 4096) (View.readAt (Elt F) a1.view (Rect.unit (s := S1x2x8x4096) ![0, (1 : Fin 2).val, 0, 0] S1x1x8x4096.size (tail_inb 1)).toLoadRect f1) shapeCasts_S1x1x8x4096_S8x4096)
    (hAB : (A, B) = (shapeCast S1x1x8x4096 (Spec.re (R := 8) M P) shapeCasts_S8x4096_S1x1x8x4096,
      shapeCast S1x1x8x4096 (Spec.im (R := 8) M P) shapeCasts_S8x4096_S1x1x8x4096)) :
    a3.view.read (Elt F) (a3.view.writes (Elt F) f3
      [⟨Rect.unit ![0, 1, 0, 0] S1x1x8x4096.size h1', B⟩, ⟨Rect.unit ![0, 0, 0, 0] S1x1x8x4096.size h0, A⟩]) = tailOut (a1.view.read (Elt F) f1) := by
  obtain rfl := hM.trans (tail_load c a1 0 f1 _)
  obtain rfl := hP.trans (tail_load c a1 1 f1 _)
  obtain ⟨rfl, rfl⟩ := Prod.mk.inj hAB
  funext y
  obtain ⟨z, p, r, l, rfl⟩ : ∃ z p r l, y = ix4 z p r l := ⟨y 0, y 1, y 2, y 3, eq_ix4 y⟩
  obtain rfl : z = 0 := Subsingleton.elim _ _
  by_cases hp : p.val = 0
  · obtain rfl : p = 0 := Fin.ext hp
    rw [View.read_writes_cons_miss_of_axis _ _ _ _ _ 1 1 1 rfl rfl rfl (Or.inl Nat.zero_lt_one),
      View.read_writes_cons_hit_of_coords _ _ _ _ _ (ix4 (⟨0, Nat.one_pos⟩ : Fin 1) (⟨0, Nat.one_pos⟩ : Fin 1) r l) _
        (fun a => by fin_cases a <;> simp [Rect.unit]), tail_uncast]
    rfl
  · obtain rfl : p = 1 := Fin.ext (by have := p.isLt; show p.val = 1; omega)
    rw [View.read_writes_cons_hit_of_coords _ _ _ _ _ (ix4 (⟨0, Nat.one_pos⟩ : Fin 1) (⟨0, Nat.one_pos⟩ : Fin 1) r l) _
        (fun a => by fin_cases a <;> simp [Rect.unit]), tail_uncast]
    rfl

set_option maxRecDepth 100000
set_option backward.proofsInPublic true in
theorem tailRun (f1 : Buf (Elt F) (a1.view.loc (c : Thread nD τ))) (f3 : Buf (Elt F) (a3.view.loc (c : Thread nD τ))) (W) :
    iprop(tailP c a1 f1 ∗ tailP c a3 f3 ∗ owes (c : Thread nD τ) 0 W)
      ⊢ wp frame (wpE (defs₀ (F := F)) 𝒱₀ (c : Thread nD τ) none) Set.univ (cc1__tail_body i a1 h1 a2 h2 a3 h3)
          (fun _ => iprop(tailP c a1 f1
            ∗ (∃ g, ⌜a3.view.read (Elt F) g = tailOut (a1.view.read (Elt F) f1)⌝ ∗ tailP c a3 g)
            ∗ ∃ W, owes (c : Thread nD τ) 0 W)) := by
  iintro ⟨H1, H3, HW⟩
  sl_exec_parts
  sl_step
  isplitl [H1]; · iexact H1
  isplitl [H3]
  · iexists (a3.view.writes (Elt F) f3
      [⟨Rect.unit ![0, 1, 0, 0] S1x1x8x4096.size inb_S1x2x8x4096_S1x1x8x4096_0_1_0_0,
          k1_pay181 (tailRun.sl.r_10 c a1 f1) (tailRun.sl.r_12 c a1 f1) (tailRun.sl.r_14 c a1 f1)⟩,
        ⟨Rect.unit ![0, 0, 0, 0] S1x1x8x4096.size inb_S1x2x8x4096_S1x1x8x4096_0_0_0_0,
          k1_pay180 (tailRun.sl.r_10 c a1 f1) (tailRun.sl.r_13 c a1 f1) (tailRun.sl.r_15 c a1 f1) tailRun.sl.cst_204
            tailRun.sl.cst_205⟩])
    isplitr
    · ipureintro
      refine tail_stored c a1 a3 f1 f3 _ _ _ _ (tailRun.sl.r c a1 f1) (tailRun.sl.r_1 c a1 f1) rfl rfl ?_
      sl_open_run
      sl_open_pay
      dsimp only [Spec.step, Spec.midOf, Spec.countLe, Spec.count, Spec.f128, Spec.f256, Spec.f512, Spec.f1024, Spec.f2048, Spec.ones,
        Spec.im, Spec.re, Spec.over, Spec.sinV, Spec.cosV, Spec.bitOf, Spec.turnsI, Spec.turns, Spec.sinP, Spec.cosP, Spec.horner, Spec.rest2, Spec.rest, Spec.sign,
        Spec.noise, Spec.noiseOf, Spec.rowSum, Spec.below, Spec.kth, Spec.word, Spec.bitStep, Spec.lowAt, Spec.topAt, Spec.lowAmong, Spec.need,
        Spec.topAt16, Spec.topSearch, Spec.low, Spec.top, Nat.iterate]
    · iexact H3
  iexists _; iexact HW

end Cert.Proof.Run

end
-- ==== Proof.Regions.lean ====
/- The two regions' records: what each holds between its points, its body's obligation, and how it is entered and left. The
   second region's windows hold rows that the arrays do not have, so it is told as a relation: whatever the staging buffer
   holds past the array's end, the block written back is what the body makes of the block that was found. -/
module

public import proofs.«01_k».proof.Proof.Home
public import proofs.«01_k».proof.Proof.Tail
public import proofs.«01_k».proof.Proof.Gen.Kernel.Regions
public import proofs.«01_k».proof.Proof.Gen.Kernel.Points

@[expose] public section

noncomputable section

namespace Cert.Proof.Run

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.Proof

variable {F : FTy → Type} [FloatOps F]
local notation "𝕄" => MT nD τ sig Unit (Elt F) ℕ (UU nD τ) ℕ

variable (m : (ℓ : Loc nD τ sig) → Buf (Elt F) ℓ)

/-- The argument and the first region's result array at launch. -/
abbrev XA (c : Dev nD) : Buf (Elt F) ((c : Thread nD τ).loc main_arg0) := m ((c : Thread nD τ).loc main_arg0)
abbrev VA (c : Dev nD) : Buf (Elt F) ((c : Thread nD τ).loc main_v0) := m ((c : Thread nD τ).loc main_v0)
/-- The unscoped buffers after the first region, and after the copy that follows it. -/
abbrev U1 (c : Dev nD) : Valuation τ sig (Elt F) := Function.update (V0 m c) main_v0 (OUT c (XA m c) (VA m c))
abbrev U2 (c : Dev nD) : Valuation τ sig (Elt F) := StableHlo.after hostOps1 (U1 m c)

omit [FloatOps F] in
/-- The unscoped buffers are three. -/
theorem held3 (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_v0) ↦{fullShare} W main_v0)
        ∗ (((c : Thread nD τ).loc main_v1) ↦{fullShare} W main_v1)) := by
  rw [← Pipeline.unscopedBufs_held (Ix := Unit) (Name := ℕ) (U := UU nD τ) (Lvl := ℕ) c W,
    Pipeline.unscopedBufs_split cfgs (0 : Fin 2) winFacts0.arr_unscoped winFacts0.arr_inj c (fun b => W b),
    show (Pipeline.unscopedRest (cfgs 0).spec c (fun b => W b) : sProp 𝕄) = _ from unscopedRest0_eq c (fun b => W b)]
  rw [show (Finset.univ : Finset (Fin (cfgs 0).W)) = ∅ from rfl, BI.bigSep_empty]
  exact BI.equiv_iff.mp BI.emp_sep

/-! ## The first region -/

section First
variable (c : Dev nD)

/-- What the blocks, slots and cells hold before point `n`. -/
def ringAt (n : ℕ) : sProp 𝕄 :=
  if n = 0 then allHome c (XA m c) (VA m c) else if n = 64 then allHome c (XA m c) (OUT c (XA m c) (VA m c)) else between c (XA m c) (VA m c) (2 * n)

/-- The second region's staging buffers, which the first does not touch. -/
def stagings : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The rows that the first region leaves alone, the generator's register and those buffers. -/
def aside : sProp 𝕄 :=
  iprop((((c : Thread nD τ).loc main_arg0) ↦[tailRows]{fullShare} XA m c) ∗ (((c : Thread nD τ).loc main_v0) ↦[tailRows]{fullShare} VA m c)
    ∗ (∃ r, prngReg c r) ∗ stagings (F := F) c)

def rdat0 : RDat τ (Elt F) Unit ℕ (UU nD τ) ℕ cfg0 c where
  A w := w.elim0
  after w := w.elim0
  Φ t := iprop(aside m c ∗ ringAt m c t.val)
  q w := w.elim0
  owed _ := 0

end First

/-! ## The second region -/

section Second
variable (c : Dev nD)

/-- What the arrays of the second region's windows hold at its entry. -/
def A1 (w : Fin cfg1.W) : Buf (Elt F) ((cfg1.win w).arr.view.loc (c : Thread nD τ)) := U2 m c (Proc.devRef .tc (Pipeline.arrRef spec1 w))

/-- The block of the argument that point `t` finds, over a staging buffer that held `d`. -/
def found (t : Fin cfg1.N) (d : (cfg1.win 0).block.Idx → Elt F (cfg1.win 0).elt) : (cfg1.win 0).block.Idx → Elt F (cfg1.win 0).elt :=
  (cfg1.win 0).fill (cfg1.grid.coords t) d (((cfg1.win 0).blk t).view.read (Elt F) (A1 m c 0))

/-- What the body leaves in each window's staging buffer. -/
def left1 (t : Fin cfg1.N) : (w : Fin cfg1.W) → (Y X : (cfg1.win w).block.Idx → Elt F (cfg1.win w).elt) → Prop
  | ⟨0, _⟩, Y, X => X = Y
  | ⟨1, _⟩, Y, X => X = Y
  | ⟨2, _⟩, Y, X => ∃ d, X = tailOut (found m c t d)

def rdat1 : RDat τ (Elt F) Unit ℕ (UU nD τ) ℕ cfg1 c where
  A w := A1 m c w
  after w t := left1 m c t w
  Φ _ := iprop((∃ r, prngReg c r) ∗ Pipeline.scopedRest spec1 c)
  q _ := fullShare
  owed _ := 0

end Second

/-- Both regions' data. -/
def rdats (p : Fin 2) (c : Dev nD) : RDat τ (Elt F) Unit ℕ (UU nD τ) ℕ (Pipeline.pin (pcfgs (F := F)) adm p) c :=
  match p with
  | ⟨0, _⟩ => rdat0 m c
  | ⟨1, _⟩ => rdat1 m c

/-! ## The bodies' obligations -/

theorem coords0 : ∀ t : Fin grid0.N, pt (grid0.coords t) = t.val := by decide +kernel

theorem defs_tc0 : (defs₀ (F := F)) .tc cfg0.body = fun a => bodyG (grid0.coords a.1) := rfl
theorem prog0 (t : Fin cfg0.N) : (defs₀ (F := F)) .tc cfg0.body (cfg0.bodyArgs t (cfg0.slots t)) = bodyG (F := F) (grid0.coords t) :=
  (congrFun defs_tc0 _).trans rfl
theorem defs_tc1 : (defs₀ (F := F)) .tc cfg1.body = fun a => cc1__tail_body (grid1.coords a.1) (win1_0.stage (a.2 0)) (hstage1_0 ((a.2 0).cast nbuf1_0))
    (win1_1.stage (a.2 1)) (hstage1_1 ((a.2 1).cast nbuf1_1)) (win1_2.stage (a.2 2)) (hstage1_2 ((a.2 2).cast nbuf1_2)) := rfl
theorem prog1 (t : Fin cfg1.N) : (defs₀ (F := F)) .tc cfg1.body (cfg1.bodyArgs t (cfg1.slots t)) = bodyAt1 (F := F) t :=
  (congrFun defs_tc1 _).trans rfl

theorem ringAt_zero (c : Dev nD) : ringAt m c 0 = allHome c (XA m c) (VA m c) := if_pos rfl
theorem ringAt_last (c : Dev nD) : ringAt m c 64 = allHome c (XA m c) (OUT c (XA m c) (VA m c)) := (if_neg (by decide)).trans (if_pos rfl)
theorem ringAt_mid (c : Dev nD) (n : ℕ) (h : n ≠ 0) (h' : n ≠ 64) : ringAt m c n = between c (XA m c) (VA m c) (2 * n) := (if_neg h).trans (if_neg h')

/-- One point of the first region. -/
theorem ring_step (c : Dev nD) (t : Fin grid0.N) (W) :
    iprop(ringAt m c t.val ∗ owes (c : Thread nD τ) 0 W)
      ⊢ wp frame (wpE (defs₀ (F := F)) 𝒱₀ (c : Thread nD τ) none) Set.univ (bodyG (F := F) (grid0.coords t))
          (fun _ => iprop(ringAt m c (t.val + 1) ∗ ∃ W, owes (c : Thread nD τ) 0 W)) := by
  have hp := coords0 t
  have hlt : t.val < 64 := t.isLt
  by_cases h0 : t.val = 0
  · have h := firstStep c (XA m c) (VA m c) (grid0.coords t) (by omega) W
    rw [hp, show 2 * t.val + 2 = 2 * (t.val + 1) by omega] at h
    rw [ringAt_mid m c (t.val + 1) (by omega) (by omega), h0, ringAt_zero]
    rw [h0] at h
    exact h
  by_cases h1 : t.val = 63
  · have h := lastStep c (XA m c) (VA m c) (grid0.coords t) (by omega) W
    rw [hp] at h
    rw [ringAt_mid m c t.val (by omega) (by omega), h1, show 63 + 1 = 64 from rfl, ringAt_last]
    rw [h1] at h
    exact h
  · have h := midStep c (XA m c) (VA m c) (grid0.coords t) (by omega) (by omega) W
    rw [hp, show 2 * t.val + 2 = 2 * (t.val + 1) by omega] at h
    rw [ringAt_mid m c (t.val + 1) (by omega) (by omega), ringAt_mid m c t.val (by omega) (by omega)]
    exact h

set_option backward.isDefEq.respectTransparency.types false in
theorem body0 (c : Dev nD) : (rdat0 m c).BodyObligation (defs₀ (F := F)) 𝒱₀ () Set.univ := fun t Y hY => by
  rw [show (Finset.univ : Finset (Fin cfg0.W)) = ∅ from rfl, BI.bigSep_empty, BI.bigSep_empty]
  rw [show (rdat0 m c).Φ t.castSucc = iprop(aside m c ∗ ringAt m c t.val) from rfl, show (rdat0 m c).Φ t.succ = iprop(aside m c ∗ ringAt m c (t.val + 1)) from rfl]
  unfold RDat.owesAt Pipeline.owesWithin
  rw [show (rdat0 m c).owed t.castSucc = 0 from rfl, show (rdat0 m c).owed t.succ = 0 from rfl]
  iintro ⟨⟨HA, HR⟩, ⟨%W, -, HW⟩, -⟩
  sl_rw [prog0 t]
  iapply (wp_wand_r frame (wpE (defs₀ (F := F)) 𝒱₀ (c : Thread nD τ) none) Set.univ)
  isplitl [HR HW]
  · iapply (ring_step m c t W)
    isplitl [HR]; · iexact HR
    iexact HW
  · iintro %_ ⟨HR, ⟨%W', HW⟩⟩
    isplitl [HA HR]
    · isplitl [HA]; · iexact HA
      iexact HR
    isplitl [HW]
    · iexists W'; isplitr; · ipureintro; exact fun _ _ => Or.inl trivial
      iexact HW
    iempintro

set_option backward.isDefEq.respectTransparency.types false in
theorem body1 (c : Dev nD) : (rdat1 m c).BodyObligation (defs₀ (F := F)) 𝒱₀ () Set.univ := fun t Y hY => by
  rw [bigSep_W1, bigSep_W1]
  rw [show (rdat1 m c).Φ t.castSucc = iprop((∃ r, prngReg c r) ∗ Pipeline.scopedRest spec1 c) from rfl,
    show (rdat1 m c).Φ t.succ = iprop((∃ r, prngReg c r) ∗ Pipeline.scopedRest spec1 c) from rfl]
  unfold RDat.owesAt Pipeline.owesWithin
  rw [show (rdat1 m c).owed t.castSucc = 0 from rfl, show (rdat1 m c).owed t.succ = 0 from rfl]
  obtain ⟨d, hd⟩ := ((rdat1 m c).finds_of_fetch (fetch1_0 t) (Y 0)).1 (hY 0)
  unfold owns
  iintro ⟨HΦ, ⟨%W, -, HW⟩, ⟨%g0, %hg0, H0⟩, ⟨%g1, %hg1, H1⟩, ⟨%g2, %hg2, H2⟩⟩
  sl_rw [prog1 t]
  iapply (wp_wand_r frame (wpE (defs₀ (F := F)) 𝒱₀ (c : Thread nD τ) none) Set.univ)
  isplitl [H0 H2 HW]
  · iapply (tailRun c (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) g0 g2 W)
    isplitl [H0]; · iexact H0
    isplitl [H2]; · iexact H2
    iexact HW
  · iintro %_ ⟨H0, ⟨%g, %hg, H2⟩, ⟨%W', HW⟩⟩
    isplitl [HΦ]; · iexact HΦ
    isplitl [HW]
    · iexists W'; isplitr; · ipureintro; exact fun _ _ => Or.inl trivial
      iexact HW
    isplitl [H0]
    · iexists (Y 0); isplitr; · ipureintro; exact (rfl : Y 0 = Y 0)
      iexists g0; isplitr; · ipureintro; exact hg0
      iexact H0
    isplitl [H1]
    · iexists (Y 1); isplitr; · ipureintro; exact (rfl : Y 1 = Y 1)
      iexists g1; isplitr; · ipureintro; exact hg1
      iexact H1
    iexists (tailOut (found m c t d))
    isplitr; · ipureintro; exact ⟨d, rfl⟩
    iexists g; isplitr
    · ipureintro
      exact hg.trans (congrArg tailOut (hg0.trans hd))
    iexact H2

end Cert.Proof.Run

end
-- ==== Proof.Run.lean ====
/- The program's run: the first region, the copy and the second region in order, from any memory. The argument ends as it
   was, every counter is zero, and the result is the first region's with the second region's blocks written over it. -/
module

public import proofs.«01_k».proof.Proof.Regions
public import Idealize.ShloMosaic.Lib.Pipeline.Frame

@[expose] public section

noncomputable section

namespace Cert.Proof.Run

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)
open Cert.Proof

variable {F : FTy → Type} [FloatOps F]
local notation "𝕄" => MT nD τ sig Unit (Elt F) ℕ (UU nD τ) ℕ

variable (m : (ℓ : Loc nD τ sig) → Buf (Elt F) ℓ)

abbrev noL : GSem nD τ sig → Finset Unit := fun _ => ∅
abbrev noLv : GSem nD τ sig → Unit → ℕ := fun _ _ => 0

/-- What rides beside the buffers: the generator's register, and the core owing nothing. -/
def ride (c : Dev nD) : sProp 𝕄 := iprop((∃ r, prngReg c r) ∗ ∃ W, owes (c : Thread nD τ) (0 : CellTallies nD τ sig Unit) W)

theorem noPref (c : Dev nD) (p : Fin 2) (q) (v) : (BI.emp : sProp 𝕄) ⊢ Pipeline.prefHeld (pcfgs (F := F) p).pre c q v := by
  unfold Pipeline.prefHeld
  match p with
  | ⟨0, _⟩ => rw [show (Finset.univ : Finset (Fin 0)) = ∅ from rfl, BI.bigSep_empty]
  | ⟨1, _⟩ => rw [show (Finset.univ : Finset (Fin 0)) = ∅ from rfl, BI.bigSep_empty]

theorem waits (p : Fin 2) (c : Dev nD) (h : ∀ t, (rdats m p c).owed t = 0) :
    (levAts noL noLv : sProp 𝕄) ⊢ RDat.cellsWaits (Pipeline.pin (pcfgs (F := F)) adm) (rdats m) () p c :=
  (show (levAts noL noLv : sProp 𝕄) ⊢ BI.emp from by iintro -; iempintro).trans (RDat.cellsWaits_of_owed_zero _ (rdats m) () p c h)

set_option backward.isDefEq.respectTransparency.types false in
/-- The first region's record. -/
def reg0 : RDat.RegionSeg (pcfgs (F := F)) adm (rdats m) () defs₀ 𝒱₀ noL noLv 0 where
  win := winFacts0.to₀
  block_pos := block_pos0
  stage_whole := stage_whole0
  K := Fin 4
  osem := osem
  ho := ownSemFacts
  hbody := fun c => body0 m c
  hwaits := fun c => waits m 0 c fun _ => rfl
  pre := fun c => iprop(StableHlo.held (c : Thread nD τ) (Pipeline.ucRefs τ sig) (V0 m c) ∗ ride c)
  post := fun c => iprop(StableHlo.held (c : Thread nD τ) (Pipeline.ucRefs τ sig) (U1 m c) ∗ ride c)
  X := fun c => iprop((((c : Thread nD τ).loc main_arg0) ↦{fullShare} XA m c) ∗ (((c : Thread nD τ).loc main_v0) ↦{fullShare} VA m c)
    ∗ (∃ r, prngReg c r) ∗ Pipeline.ownSems0 osem c)
  Y := fun c => iprop((((c : Thread nD τ).loc main_arg0) ↦{fullShare} XA m c) ∗ (((c : Thread nD τ).loc main_v0) ↦{fullShare} OUT c (XA m c) (VA m c))
    ∗ (∃ r, prngReg c r))
  Z := fun c => ((c : Thread nD τ).loc main_v1) ↦{fullShare} V0 m c main_v1
  hentry := fun c => by
    rw [held3]
    unfold ride
    iintro ⟨⟨⟨Hx, Ho, Hv⟩, Hp, ⟨%W, HW⟩⟩, Hs, -⟩
    imodintro
    isplitr
    · unfold RDat.arrays
      iapply (show (BI.emp : sProp 𝕄) ⊢ bigSep (Finset.univ : Finset (Fin 0)) _ from by
        rw [show (Finset.univ : Finset (Fin 0)) = ∅ from rfl, BI.bigSep_empty])
      iempintro
    isplitr
    · iapply (noPref c 0 _ _); iempintro
    isplitl [HW]
    · unfold RDat.owesAt Pipeline.owesWithin
      rw [show (rdats m 0 c).owed 0 = 0 from rfl]
      iexists W; isplitr; · ipureintro; exact fun _ _ => Or.inl trivial
      iexact HW
    isplitr [Hv]
    · isplitl [Hx]; · iexact Hx
      isplitl [Ho]; · iexact Ho
      isplitl [Hp]; · iexact Hp
      iexact Hs
    iexact Hv
  hin := fun c => by
    show _ ⊢ iprop(aside m c ∗ ringAt m c 0)
    rw [ringAt_zero]
    refine BIBase.Entails.trans (sep_mono .rfl (sep_mono .rfl (ent_of_eq (scopedRest0_eq c)))) ?_
    rw [ownSems0_eq, x_eq, o_eq]
    unfold aside allHome stagings
    iintro ⟨⟨⟨Hxb, Hxr⟩, ⟨Hob, Hor⟩, Hp, Hc⟩, -, Hi, Hu, Hst⟩
    isplitl [Hxr Hor Hp Hst]
    · isplitl [Hxr]; · iexact Hxr
      isplitl [Hor]; · iexact Hor
      isplitl [Hp]; · iexact Hp
      iexact Hst
    isplitl [Hxb]; · iexact Hxb
    isplitl [Hob]; · iexact Hob
    ihave Hi2 := (in_split c) $$ Hi
    icases Hi2 with ⟨Hi0, Hi1⟩
    ihave Hu2 := (out_split c) $$ Hu
    icases Hu2 with ⟨Hu0, Hu1⟩
    isplitl [Hi0]; · iexact Hi0
    isplitl [Hi1]; · iexact Hi1
    isplitl [Hu0]; · iexact Hu0
    isplitl [Hu1]; · iexact Hu1
    iexact Hc
  hout := fun c => by
    show iprop(aside m c ∗ ringAt m c 64) ⊢ _
    rw [ringAt_last]
    refine BIBase.Entails.trans ?_ (sep_mono .rfl (sep_mono .rfl (ent_of_eq (scopedRest0_eq c).symm)))
    rw [ownSems0_eq, x_eq, o_eq]
    unfold aside allHome stagings
    rw [o_rest c (XA m c) (VA m c)]
    iintro ⟨⟨Hxr, Hor, Hp, Hst⟩, Hxb, Hob, Hi0, Hi1, Hu0, Hu1, Hc⟩
    isplitl [Hxb Hxr Hob Hor Hp]
    · isplitl [Hxb Hxr]
      · isplitl [Hxb]; · iexact Hxb
        iexact Hxr
      isplitl [Hob Hor]
      · isplitl [Hob]; · iexact Hob
        iexact Hor
      iexact Hp
    isplitl [Hc]; · iexact Hc
    isplitl [Hi0 Hi1]
    · iapply (in_join c); isplitl [Hi0]; · iexact Hi0
      iexact Hi1
    isplitl [Hu0 Hu1]
    · iapply (out_join c); isplitl [Hu0]; · iexact Hu0
      iexact Hu1
    iexact Hst
  hexit := fun c => by
    rw [held3, show U1 m c main_arg0 = XA m c from V1_of m (fun _ r c => U1 m c r) c main_arg0 (by decide),
      show U1 m c main_v1 = V0 m c main_v1 from V1_of m (fun _ r c => U1 m c r) c main_v1 (by decide),
      show U1 m c main_v0 = OUT c (XA m c) (VA m c) from Function.update_self ..]
    unfold RDat.owesAt Pipeline.owesWithin ride
    rw [show (rdats m 0 c).owed (Fin.last _) = 0 from rfl]
    iintro ⟨-, ⟨%W, -, HW⟩, ⟨Hx, Ho, Hp⟩, Hv⟩
    imodintro
    isplitl [Hx Ho Hv]
    · isplitl [Hx]; · iexact Hx
      isplitl [Ho]; · iexact Ho
      iexact Hv
    isplitl [Hp]; · iexact Hp
    iexists W; iexact HW

theorem arrays1 (c : Dev nD) (G : ∀ w : Fin cfg1.W, Buf (Elt F) ((cfg1.win w).arr.view.loc (c : Thread nD τ))) :
    ((rdat1 m c).arrays G : sProp 𝕄) = iprop((((c : Thread nD τ).loc main_arg0) ↦{fullShare} G 0) ∗ (((c : Thread nD τ).loc main_v0) ↦{fullShare} G 1)
        ∗ (((c : Thread nD τ).loc main_v1) ↦{fullShare} G 2)) := by
  unfold RDat.arrays
  rw [bigSep_W1, (arr_whole1 0).set_eq_univ, (arr_whole1 1).set_eq_univ, (arr_whole1 2).set_eq_univ]
  rfl

/-- What the program's result may hold at its end. -/
def Ends (c : Dev nD) (G : Buf (Elt F) ((c : Thread nD τ).loc main_v1)) : Prop := (rdat1 m c).ArrAt (2 : Fin 3) grid1.N G

theorem arraysAt1 (c : Dev nD) : ((rdat1 m c).arraysAt grid1.N : sProp 𝕄)
    ⊢ iprop((((c : Thread nD τ).loc main_arg0) ↦{fullShare} A1 m c 0) ∗ (((c : Thread nD τ).loc main_v0) ↦{fullShare} A1 m c 1)
        ∗ (∃ G, ⌜Ends m c G⌝ ∗ (((c : Thread nD τ).loc main_v1) ↦{fullShare} G))) := by
  unfold RDat.arraysAt
  rw [bigSep_W1, (arr_whole1 0).set_eq_univ, (arr_whole1 1).set_eq_univ, (arr_whole1 2).set_eq_univ]
  rw [(rdat1 m c).ArrAt_in (0 : Fin 3) rfl, (rdat1 m c).ArrAt_in (1 : Fin 3) rfl]
  iintro ⟨⟨%F0, %h0, H0⟩, ⟨%F1, %h1, H1⟩, ⟨%F2, %h2, H2⟩⟩
  subst h0 h1
  isplitl [H0]; · iexact H0
  isplitl [H1]; · iexact H1
  iexists F2; isplitr; · ipureintro; exact h2
  iexact H2

set_option backward.isDefEq.respectTransparency.types false in
/-- The second region's record. -/
def reg1 : RDat.RegionSeg (pcfgs (F := F)) adm (rdats m) () defs₀ 𝒱₀ noL noLv 1 where
  win := winFacts1.to₀
  block_pos := block_pos1
  stage_whole := stage_whole1
  K := PEmpty
  osem := fun k => k.elim
  ho := Pipeline.OwnSemFacts.none _
  hbody := fun c => body1 m c
  hwaits := fun c => waits m 1 c fun _ => rfl
  pre := fun c => iprop(StableHlo.held (c : Thread nD τ) (Pipeline.ucRefs τ sig) (U2 m c) ∗ ride c)
  post := fun c => iprop((∃ G, ⌜Ends m c G⌝ ∗ StableHlo.held (c : Thread nD τ) (Pipeline.ucRefs τ sig) (Function.update (U2 m c) main_v1 G)) ∗ ride c)
  X := fun c => iprop(∃ r, prngReg c r)
  Y := fun c => iprop(∃ r, prngReg c r)
  Z := fun c => BI.emp
  hentry := fun c => by
    rw [held3, show ((rdats m 1 c).arrays (rdats m 1 c).A : sProp 𝕄) = _ from arrays1 m c (A1 m c)]
    unfold ride
    iintro ⟨⟨⟨Hx, Ho, Hv⟩, Hp, ⟨%W, HW⟩⟩, -, -⟩
    imodintro
    isplitl [Hx Ho Hv]
    · isplitl [Hx]; · iexact Hx
      isplitl [Ho]; · iexact Ho
      iexact Hv
    isplitr
    · iapply (noPref c 1 _ _); iempintro
    isplitl [HW]
    · unfold RDat.owesAt Pipeline.owesWithin
      rw [show (rdats m 1 c).owed 0 = 0 from rfl]
      iexists W; isplitr; · ipureintro; exact fun _ _ => Or.inl trivial
      iexact HW
    isplitl [Hp]; · iexact Hp
    iempintro
  hin := fun c => by
    show _ ⊢ iprop((∃ r, prngReg c r) ∗ Pipeline.scopedRest spec1 c)
    iintro ⟨Hp, -, Hr⟩
    isplitl [Hp]; · iexact Hp
    iexact Hr
  hout := fun c => by
    show iprop((∃ r, prngReg c r) ∗ Pipeline.scopedRest spec1 c) ⊢ _
    rw [Pipeline.ownSems0_none]
    iintro ⟨Hp, Hr⟩
    isplitl [Hp]; · iexact Hp
    isplitr; · iempintro
    iexact Hr
  hexit := fun c => by
    refine BIBase.Entails.trans (sep_mono (arraysAt1 m c) .rfl) ?_
    unfold RDat.owesAt Pipeline.owesWithin ride
    rw [show (rdats m 1 c).owed (Fin.last _) = 0 from rfl]
    iintro ⟨⟨Hx, Ho, ⟨%G, %hG, Hv⟩⟩, ⟨%W, -, HW⟩, Hp, -⟩
    imodintro
    isplitl [Hx Ho Hv]
    · iexists G; isplitr; · ipureintro; exact hG
      iapply (ent_of_eq (held3 c (Function.update (U2 m c) main_v1 G)).symm)
      rw [Function.update_self, Function.update_of_ne (show (Proc.devRef .tc main_arg0 : DevRef τ sig) ≠ Proc.devRef .tc main_v1 from by decide),
        Function.update_of_ne (show (Proc.devRef .tc main_v0 : DevRef τ sig) ≠ Proc.devRef .tc main_v1 from by decide)]
      isplitl [Hx]; · iexact Hx
      isplitl [Ho]; · iexact Ho
      iexact Hv
    isplitl [Hp]; · iexact Hp
    iexists W; iexact HW

/-- The copy between the regions. -/
def mid : HostSeg (Ix := Unit) (Name := ℕ) (U := UU nD τ) (Lvl := ℕ) (pcfgs (F := F)) defs₀ 𝒱₀ noL noLv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) ride

abbrev items (c : Dev nD) : List (RDat.Seg (pcfgs (F := F)) adm (rdats m) () defs₀ 𝒱₀ noL noLv) :=
  [.region (reg0 m), .host (mid m), .region (reg1 m)]

theorem U2_arg (c : Dev nD) : U2 m c main_arg0 = m ((c : Thread nD τ).loc main_arg0) :=
  (V2_of m (fun _ r c => U1 m c r) c main_arg0 (by decide)).trans
    ((V1_of m (fun _ r c => U1 m c r) c main_arg0 (by decide)).trans rfl)

set_option backward.isDefEq.respectTransparency.types false in
/-- THE RUN: the argument ends as it was, the result is one that the second region may leave, every counter is zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ Ends m c (r.2.mem ((c.tc : Thread nD τ).loc main_v1))) ∧ r.2.sem = fun _ => 0) := by
  refine RDat.θ_run_regions_kit_dev_sems (pcfgs (F := F)) adm (rdats m) () cellOf_inj EP defs₀ 𝒱₀ noL noLv m ρ main
    (items m)
    (fun c Q => by
      rewrite [main_chain c, RDat.Seg.run_eq_chain,
        show (items m c).map RDat.Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, RDat.Seg.pipes_host, RDat.Seg.pipes_region, RDat.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := ?_)
    (T₀ := fun c => iprop(StableHlo.held (c : Thread nD τ) (Pipeline.ucRefs τ sig) (V0 m c) ∗ ride c))
    (Tₙ := fun c => iprop(∃ G, ⌜Ends m c G⌝ ∗ StableHlo.held (c : Thread nD τ) (Pipeline.ucRefs τ sig) (Function.update (U2 m c) main_v1 G)))
    (hch := fun c => ⟨.rfl, .rfl, .rfl, ?_⟩)
    (hinit := ?_)
    (QY := fun c s => s.mem ((c.tc : Thread nD τ).loc main_arg0) = m ((c.tc : Thread nD τ).loc main_arg0)
      ∧ Ends m c (s.mem ((c.tc : Thread nD τ).loc main_v1)))
    (hfin := fun c s' => ?_) (hQ := fun _ h hz => ⟨h, funext fun g => hz g (.inr (regions_no_unscoped g.2))⟩)
  · iintro Hu
    ihave H := (ownU_pair _ _) $$ Hu
    icases H with ⟨Hu, -⟩
    imodintro
    isplitl [Hu]; · iexact Hu
    iapply (show (BI.emp : sProp 𝕄) ⊢ bigSep Finset.univ (fun _ : Dev nD => (BI.emp : sProp 𝕄)) from by rw [BI.bigSep_emp_const])
    iempintro
  · show iprop((∃ G, ⌜Ends m c G⌝ ∗ StableHlo.held (c : Thread nD τ) (Pipeline.ucRefs τ sig) (Function.update (U2 m c) main_v1 G)) ∗ ride c) ⊢ _
    unfold ride
    iintro ⟨H, -, HW⟩
    isplitl [H]; · iexact H
    iexact HW
  · refine Pipeline.initEach noL noLv fun c => ?_
    rw [← Pipeline.unscopedBufs_held (Ix := Unit) (Name := ℕ) (U := UU nD τ) (Lvl := ℕ) c (V0 m c)]
    unfold ride
    iintro ⟨⟨Hb, -, HO, -, Hp, -⟩, -⟩
    imodintro
    isplitl [Hb]; · iexact Hb
    isplitl [Hp]; · iexists _; iexact Hp
    iexists ∅; iexact HO
  · iintro ⟨⟨%G, %hG, Hh⟩, HSI⟩
    unfold StableHlo.held
    ihave Hr := (pointsTo_read_all (Pipeline.ucRefs τ sig) (fun b => ((c : Thread nD τ).1, b)) (Function.update (U2 m c) main_v1 G) s') $$ [Hh HSI]
    · isplitl [Hh] <;> iassumption
    icases Hr with ⟨%h, HSI⟩
    imodintro
    isplitr
    · ipureintro
      have e0 := h (Proc.devRef .tc main_arg0) (Finset.mem_filter.mpr ⟨StableHlo.devRef_mem_tcRefs main_arg0, by decide⟩)
      have e1 := h (Proc.devRef .tc main_v1) (Finset.mem_filter.mpr ⟨StableHlo.devRef_mem_tcRefs main_v1, by decide⟩)
      rw [Function.update_of_ne (show (Proc.devRef .tc main_arg0 : DevRef τ sig) ≠ Proc.devRef .tc main_v1 from by decide)] at e0
      rw [Function.update_self] at e1
      refine ⟨e0.trans (U2_arg m c), ?_⟩
      rw [show s'.mem.mem ((c.tc : Thread nD τ).loc main_v1) = G from e1]
      exact hG
    · iexact HSI

end Cert.Proof.Run

end
-- ==== Proof.Ideal.lean ====
/- The idealized kernel is the same program text as the kernel: the two programs' labels and bodies are equal, so the run
   carries over. -/
module

public import proofs.«01_k».proof.Proof.Run
public import proofs.«01_k».proof.Proof.Gen.KernelIdeal

@[expose] public section

noncomputable section

namespace Cert.Proof.Run

open Cert.Kernel Cert.Kernel.Gen
open Idealize.ShloMosaic Idealize.ShloMosaic.TcCoe Idealize.SL.Sem

variable {F : FTy → Type} [FloatOps F]

theorem ideal_defs₀ : (Cert.KernelIdeal.defs₀ (F := F)) = Cert.Kernel.defs₀ (F := F) := by
  unfold Cert.KernelIdeal.defs₀ Cert.Kernel.defs₀
  congr 1
  funext l a
  match l, a with
  | ⟨0, _⟩, (t, s) => rfl
  | ⟨1, _⟩, (t, s) => rfl

theorem ideal_pcfgs : (Cert.KernelIdeal.pcfgs (F := F)) = Cert.Kernel.pcfgs (F := F) := rfl

theorem ideal_defs : (Cert.KernelIdeal.defs (F := F)) = Cert.Kernel.defs (F := F) := by
  unfold Cert.KernelIdeal.defs Cert.Kernel.defs
  rw [ideal_defs₀]
  rfl

theorem ideal_main : (Cert.KernelIdeal.main (F := F)) = Cert.Kernel.main (F := F) := rfl

end Cert.Proof.Run

end
-- ==== Proof.Frames.lean ====
/- The frame claims: each program ends, its argument unchanged and its counters zero. -/
module

public import proofs.«01_k».proof.Defs
public import proofs.«01_k».proof.Proof.Ideal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The idealized kernel's run, in its own names. -/
theorem ideal_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ Run.Ends (F := Ideal) m c (r.2.mem ((c.tc : Thread Cert.KernelIdeal.nD Cert.KernelIdeal.τ).loc Cert.KernelIdeal.main_v1)))
        ∧ r.2.sem = fun _ => 0) := by
  rw [Run.ideal_defs, Run.ideal_main]
  exact Run.run (F := Ideal) m g

theorem frame_kernel : Cert.quiescent_Kernel := fun m g _ =>
  (θ_run (Cert.Kernel.defs (F := Bits)) _ _).mono (fun _ h => ⟨fun c => (h.1 c).1, h.2⟩) (Run.run (F := Bits) m g)

theorem frame_ideal : Cert.quiescent_KernelIdeal := fun m g _ =>
  (θ_run (Cert.KernelIdeal.defs (F := Ideal)) _ _).mono (fun _ h => ⟨fun c => (h.1 c).1, h.2⟩) (ideal_run m g)

theorem frame_reference : Cert.quiescent_ReferenceIdeal := fun m g _ =>
  (θ_run (Cert.ReferenceIdeal.defs (F := Ideal)) _ _).mono
    (fun _ h => ⟨fun c => (h c).2, sem_eq_zero_of_no_sems rfl _⟩) (Cert.ReferenceIdeal.Value.run (F := Ideal) m g)

end Cert.Proof

end
-- ==== Proof.Words.lean ====
/-
  Words and the numbers that they denote: below the word of infinity the order of the words is the order of the numbers,
  and the search bit by bit finds the greatest word whose number is at most a given one.
-/
module

public import proofs.«01_k».proof.Proof.Spec
public import Idealize.ShloMosaic.Lib.TotalOrder
public import Idealize.ShloMosaic.PureOps.Ideal.Laws

@[expose] public section

noncomputable section

namespace Cert.Proof.Words

open Idealize.ShloMosaic

/-- The number that a word denotes. -/
def val (u : BitVec 32) : EReal := Ideal.ofBits .f32 u

theorem not_nan {u : BitVec 32} (h : u.toNat ≤ 2139095040) : ¬ TotalOrder.IsNaN 8 23 u := by
  unfold TotalOrder.IsNaN
  rw [TotalOrder.expo_eq, TotalOrder.frac_eq]
  omega

theorem msb_false {u : BitVec 32} (h : u.toNat ≤ 2139095040) : u.msb = false := by
  rw [BitVec.msb_eq_decide]; simp; omega

theorem not_zeros {a b : BitVec 32} (ha : a.toNat ≤ 2139095040) (hb : b.toNat ≤ 2139095040) : ¬ TotalOrder.OppositeZeros 8 23 a b := by
  rintro ⟨-, -, h⟩; exact h ((msb_false ha).trans (msb_false hb).symm)

theorem key {u : BitVec 32} (h : u.toNat ≤ 2139095040) : (totalOrderKey u).toNat = 2147483648 + u.toNat := by
  have e := TotalOrder.toNat_totalOrderKey (e := 8) (m := 23) u
  have t := TotalOrder.toNat_eq_sign_add_mag (e := 8) (m := 23) u
  have ms := msb_false h
  simp only [ms] at e t
  norm_num at e t
  omega

theorem val_lt {a b : BitVec 32} (ha : a.toNat ≤ 2139095040) (hb : b.toNat ≤ 2139095040) : val a < val b ↔ a.toNat < b.toNat := by
  have e := TotalOrder.lt_iff (e := 8) (m := 23) (a := a) (b := b) (not_nan ha) (not_nan hb) (not_zeros ha hb)
  rw [key ha, key hb] at e
  show Ideal.ieee 8 23 a < Ideal.ieee 8 23 b ↔ _
  rw [← e]; omega

theorem val_le {a b : BitVec 32} (ha : a.toNat ≤ 2139095040) (hb : b.toNat ≤ 2139095040) : val a ≤ val b ↔ a.toNat ≤ b.toNat := by
  rw [← not_lt, val_lt hb ha, not_lt]

theorem val_real {u : BitVec 32} (h : u.toNat < 2139095040) : ∃ r : ℝ, val u = (r : EReal) := by
  have e : (u.extractLsb' 23 8).toNat = u.toNat / 2 ^ 23 % 2 ^ 8 := TotalOrder.expo_eq 8 23 u
  show ∃ r : ℝ, Ideal.ieee 8 23 u = (r : EReal)
  unfold Ideal.ieee
  simp only [e]
  rw [if_neg (by omega)]
  split <;> exact ⟨_, rfl⟩

/-- One bit of the search, on words. -/
def pick (p : EReal) (w b : BitVec 32) : BitVec 32 := if val (w + b) ≤ p then w + b else w

/-- A word names a number: it is the greatest word, with no sign, whose number is at most it. (A word above that of infinity need not be
    asked about where the name is below it.) -/
def Names (p : EReal) (u : BitVec 32) : Prop :=
  u.toNat < 2147483648 ∧ ∀ a : BitVec 32, a.toNat < 2147483648 → (a.toNat ≤ 2139095040 ∨ 2139095040 ≤ u.toNat) → (val a ≤ p ↔ a.toNat ≤ u.toNat)

theorem val_zero : val 0#32 = 0 := by simp [val, Ideal.ofBits, Ideal.ieee]
theorem val_top : val 2139095040#32 = ⊤ := by simp [val, Ideal.ofBits, Ideal.ieee]

theorem exists_last (P : ℕ → Prop) (N : ℕ) (h0 : P 0) : ∃ n, n ≤ N ∧ P n ∧ ∀ k, n < k → k ≤ N → ¬ P k := by
  induction N with
  | zero => exact ⟨0, le_rfl, h0, fun k h h' => by omega⟩
  | succ N ih =>
    by_cases h : P (N + 1)
    · exact ⟨N + 1, le_rfl, h, fun k h h' => by omega⟩
    · obtain ⟨n, hn, hp, hk⟩ := ih
      refine ⟨n, by omega, hp, fun k h1 h2 => ?_⟩
      rcases Nat.lt_or_ge N k with h3 | h3
      · obtain rfl : k = N + 1 := by omega
        exact h
      · exact hk k h1 h3

/-- Every number from zero up has a name. -/
theorem exists_names (p : EReal) (hp : 0 ≤ p) : ∃ u, Names p u := by
  by_cases ht : p = ⊤
  · refine ⟨2147483647#32, by decide, fun a ha _ => ?_⟩
    have e : (2147483647#32).toNat = 2147483647 := by decide
    rw [ht, e]
    exact ⟨fun _ => by omega, fun _ => le_top⟩
  · obtain ⟨n, hn, hv, hk⟩ := exists_last (fun n => val (BitVec.ofNat 32 n) ≤ p) 2139095039 (by
      show val 0#32 ≤ p
      rw [val_zero]; exact hp)
    have e : (BitVec.ofNat 32 n).toNat = n := by rw [BitVec.toNat_ofNat, Nat.mod_eq_of_lt (by omega)]
    refine ⟨BitVec.ofNat 32 n, by omega, fun a ha hc => ?_⟩
    rw [e] at hc ⊢
    have ha' : a.toNat ≤ 2139095040 := by omega
    have ea : BitVec.ofNat 32 a.toNat = a := BitVec.eq_of_toNat_eq (by rw [BitVec.toNat_ofNat, Nat.mod_eq_of_lt (by omega)])
    constructor
    · intro h
      by_contra hlt
      by_cases hi : a.toNat ≤ 2139095039
      · exact hk a.toNat (by omega) hi (by rw [ea]; exact h)
      · obtain rfl : a = 2139095040#32 := BitVec.eq_of_toNat_eq (show a.toNat = 2139095040 by omega)
        rw [val_top] at h
        exact ht (top_le_iff.1 h)
    · intro h
      exact ((val_le ha' (by omega)).2 (by omega)).trans hv

theorem pick_step (p : EReal) (u w b : BitVec 32) (hu : Names p u) (k : ℕ) (hk : k < 31) (hb : b.toNat = 2 ^ k)
    (hw : w.toNat = u.toNat / 2 ^ (k + 1) * 2 ^ (k + 1)) : (pick p w b).toNat = u.toNat / 2 ^ k * 2 ^ k := by
  obtain ⟨h31, hv⟩ := hu
  have hs : (w + b).toNat = u.toNat / 2 ^ (k + 1) * 2 ^ (k + 1) + 2 ^ k := by
    rw [BitVec.toNat_add, hw, hb]
    interval_cases k <;> omega
  have hc : val (w + b) ≤ p ↔ (w + b).toNat ≤ u.toNat := by
    refine hv _ ?_ ?_ <;> rw [hs]
    · interval_cases k <;> omega
    · interval_cases k <;> omega
  unfold pick
  by_cases h : val (w + b) ≤ p
  · rw [if_pos h]
    rw [hc, hs] at h
    rw [hs]; interval_cases k <;> omega
  · rw [if_neg h]
    rw [hc, hs] at h
    rw [hw]; interval_cases k <;> omega

open Spec in
/-- A step of the printed search is the step on words, lane by lane. -/
theorem bitStep_apply {R : ℕ} [Fits R] (p : FVec Ideal (Sq R 4096) .f32) (w : IVec (Sq R 4096) 32) (b : BitVec 32) (i : (Sq R 4096).Idx) :
    bitStep p w b i = pick (p i) (w i) b := by
  show (if BitVec.ofBool (decide (val (w i + b) ≤ p i)) = 1#1 then w i + b else w i) = _
  unfold pick
  by_cases h : val (w i + b) ≤ p i <;> simp [h]

open Spec in
/-- The printed search finds the name of a number. -/
theorem word_apply {R : ℕ} [Fits R] (p : FVec Ideal (Sq R 4096) .f32) (i : (Sq R 4096).Idx) (u : BitVec 32) (hu : Names (p i) u) :
    word p i = u := by
  apply BitVec.eq_of_toNat_eq
  unfold word
  have h31 := hu.1
  have e0 : (broadcast (Sq R 4096) 0#32 i).toNat = u.toNat / 2 ^ 31 * 2 ^ 31 := by
    show 0 = _
    omega
  have go : ∀ (w : IVec (Sq R 4096) 32) (b : BitVec 32) (k : ℕ), k < 31 → b.toNat = 2 ^ k → (w i).toNat = u.toNat / 2 ^ (k + 1) * 2 ^ (k + 1) →
      (bitStep p w b i).toNat = u.toNat / 2 ^ k * 2 ^ k := fun w b k hk hb hw => by
    rw [bitStep_apply]; exact pick_step (p i) u (w i) b hu k hk hb hw
  rw [go _ 1#32 0 (by decide) rfl (go _ _ 1 (by decide) rfl (go _ _ 2 (by decide) rfl (go _ _ 3 (by decide) rfl (go _ _ 4 (by decide) rfl
    (go _ _ 5 (by decide) rfl (go _ _ 6 (by decide) rfl (go _ _ 7 (by decide) rfl (go _ _ 8 (by decide) rfl (go _ _ 9 (by decide) rfl
    (go _ _ 10 (by decide) rfl (go _ _ 11 (by decide) rfl (go _ _ 12 (by decide) rfl (go _ _ 13 (by decide) rfl (go _ _ 14 (by decide) rfl
    (go _ _ 15 (by decide) rfl (go _ _ 16 (by decide) rfl (go _ _ 17 (by decide) rfl (go _ _ 18 (by decide) rfl (go _ _ 19 (by decide) rfl
    (go _ _ 20 (by decide) rfl (go _ _ 21 (by decide) rfl (go _ _ 22 (by decide) rfl (go _ _ 23 (by decide) rfl (go _ _ 24 (by decide) rfl
    (go _ _ 25 (by decide) rfl (go _ _ 26 (by decide) rfl (go _ _ 27 (by decide) rfl (go _ _ 28 (by decide) rfl (go _ _ 29 (by decide) rfl
    (go _ _ 30 (by decide) rfl e0))))))))))))))))))))))))))))))]
  simp

end Cert.Proof.Words

end
-- ==== Proof.Count.lean ====
/- A count over a row, by halving in sixteen bits and a sum in thirty-two, is the number of lanes in which the mask holds. -/
module

public import proofs.«01_k».proof.Proof.Spec
public import Idealize.ShloMosaic.Lib.WordSum
public import Idealize.ShloMosaic.Lib.ValueIdx
public import Idealize.ShloMosaic.Lib.Pipeline.Value
public import Idealize.ShloMosaic.PureOps.Ideal.Laws

@[expose] public section

noncomputable section

namespace Cert.Proof.Count

open Idealize.ShloMosaic Idealize.ShloMosaic.ValueIdx
open Spec

variable {R : ℕ}

theorem half {m n : ℕ} (hm : m = n + n) (v : IVec (Sq R m) 16) (lo : (Sq R m).Slices ![0, 0] (Sq R n)) (hi : (Sq R m).Slices ![0, n] (Sq R n))
    (r : Fin R) (B : ℕ) (h2 : B + B < 65536) (hB : ∀ l, (v (ix2 r l)).toNat ≤ B) :
    (∀ l, (addi (extractStridedSlice (Sq R n) ![0, 0] v lo) (extractStridedSlice (Sq R n) ![0, n] v hi) (ix2 r l)).toNat ≤ B + B)
      ∧ ∑ l : Fin n, (addi (extractStridedSlice (Sq R n) ![0, 0] v lo) (extractStridedSlice (Sq R n) ![0, n] v hi) (ix2 r l)).toNat
        = ∑ l : Fin m, (v (ix2 r l)).toNat := by
  subst hm
  have e : ∀ l : Fin n, (addi (extractStridedSlice (Sq R n) ![0, 0] v lo) (extractStridedSlice (Sq R n) ![0, n] v hi) (ix2 r l)).toNat
      = (v (ix2 r (Fin.castAdd n l))).toNat + (v (ix2 r (Fin.natAdd n l))).toNat := fun l => by
    have a : extractStridedSlice (Sq R n) ![0, 0] v lo (ix2 r l) = v (ix2 r (Fin.castAdd n l)) := by
      refine congrArg v ?_
      funext a; apply Fin.ext; fin_cases a <;> simp [ix2]
    have b : extractStridedSlice (Sq R n) ![0, n] v hi (ix2 r l) = v (ix2 r (Fin.natAdd n l)) := by
      refine congrArg v ?_
      funext a; apply Fin.ext; fin_cases a <;> simp [ix2, Nat.add_comm]
    show (extractStridedSlice (Sq R n) ![0, 0] v lo (ix2 r l) + extractStridedSlice (Sq R n) ![0, n] v hi (ix2 r l)).toNat = _
    rw [a, b, BitVec.toNat_add]
    have := hB (Fin.castAdd n l); have := hB (Fin.natAdd n l); omega
  refine ⟨fun l => ?_, ?_⟩
  · rw [e]; exact Nat.add_le_add (hB _) (hB _)
  · rw [Finset.sum_congr rfl fun l _ => e l, Finset.sum_add_distrib, Fin.sum_univ_add]

variable [h : Fits R]

/-- The sum over the indices that reduce to a row. -/
theorem sum_row {n : ℕ} (hr : (Sq R n).Reduces [1] (Ln R)) (x : (Sq R n).Idx → ℕ) (r : Fin R) :
    ∑ i ∈ Finset.univ.filter (fun i => hr.drop i = ix1 r), x i = ∑ l : Fin n, x (ix2 r l) := by
  rw [hr.sum_filter_drop_single x (ix1 r)]
  refine Finset.sum_congr rfl fun k _ => congrArg x ?_
  funext a; apply Fin.ext; fin_cases a <;> rfl

theorem col_apply {α : Type} (x : (Ln R).Idx → α) (r : Fin R) (k : Fin 1) : shapeCast (Sq R 1) x h.col (ix2 r k) = x (ix1 r) := by
  refine shapeCast_apply x h.col (ix2 r k) (ix1 r) ?_
  rw [Shape.rowMajor_val_one, Shape.rowMajor_val_two]
  show r.val = r.val * 1 + k.val
  omega

/-- THE COUNT. -/
theorem lanes (b : IVec (Sq R 4096) 1) (r : Fin R) (k : Fin 1) :
    (Spec.count b (ix2 r k)).toNat = (Finset.univ.filter fun l : Fin 4096 => b (ix2 r l) = 1#1).card := by
  have e0 : ∀ l, (ones b (ix2 r l)).toNat = if b (ix2 r l) = 1#1 then 1 else 0 := fun l => by
    show (if b (ix2 r l) = 1#1 then (1#16 : BitVec 16) else 0#16).toNat = _
    split <;> rfl
  have b0 : ∀ l, (ones b (ix2 r l)).toNat ≤ 1 := fun l => by rw [e0]; split <;> omega
  have s1 := half rfl (ones b) h.lo2048 h.hi2048 r 1 (by omega) b0
  have s2 := half rfl (f2048 (ones b)) h.lo1024 h.hi1024 r 2 (by omega) s1.1
  have s3 := half rfl (f1024 (f2048 (ones b))) h.lo512 h.hi512 r 4 (by omega) s2.1
  have s4 := half rfl (f512 (f1024 (f2048 (ones b)))) h.lo256 h.hi256 r 8 (by omega) s3.1
  have s5 := half rfl (f256 (f512 (f1024 (f2048 (ones b))))) h.lo128 h.hi128 r 16 (by omega) s4.1
  have ex : ∀ l, (extsi 32 (f128 (f256 (f512 (f1024 (f2048 (ones b)))))) (by decide) (ix2 r l)).toNat
      = (f128 (f256 (f512 (f1024 (f2048 (ones b))))) (ix2 r l)).toNat := fun l => by
    have := s5.1 l
    show (BitVec.signExtend 32 (f128 (f256 (f512 (f1024 (f2048 (ones b))))) (ix2 r l))).toNat = _
    rw [BitVec.signExtend_eq_setWidth_of_msb_false, BitVec.toNat_setWidth]
    · change (f128 (f256 (f512 (f1024 (f2048 (ones b))))) (ix2 r l)).toNat ≤ _ at this
      omega
    · change (f128 (f256 (f512 (f1024 (f2048 (ones b))))) (ix2 r l)).toNat ≤ _ at this
      rw [BitVec.msb_eq_decide]; simp; omega
  have tot : ∑ l : Fin 128, (f128 (f256 (f512 (f1024 (f2048 (ones b))))) (ix2 r l)).toNat
      = (Finset.univ.filter fun l : Fin 4096 => b (ix2 r l) = 1#1).card := by
    refine s5.2.trans (s4.2.trans (s3.2.trans (s2.2.trans (s1.2.trans ?_))))
    rw [Finset.card_filter]
    exact Finset.sum_congr rfl fun l _ => e0 l
  have hc : (Finset.univ.filter fun l : Fin 4096 => b (ix2 r l) = 1#1).card ≤ 4096 := (Finset.card_filter_le _ _).trans (by simp)
  unfold Spec.count
  rw [col_apply, WordSum.toNat_multiReductionI_add _ h.red128 rfl (ix1 r)]
  · rw [sum_row h.red128, Finset.sum_congr rfl fun l _ => ex l, tot]
  · rw [sum_row h.red128, Finset.sum_congr rfl fun l _ => ex l, tot]; omega

end Cert.Proof.Count

end
-- ==== Proof.Search.lean ====
/-
  The two searches: each halves an interval that holds the least number with at least `k` lanes at most it, so that after
  the last step its ends are that number. Together they find a word that fewer than 64 words of the row are below and that
  at least 64 are at most.
-/
module

public import proofs.«01_k».proof.Proof.Words
public import proofs.«01_k».proof.Proof.Count

@[expose] public section

noncomputable section

namespace Cert.Proof.Search

open Idealize.ShloMosaic Idealize.ShloMosaic.ValueIdx
open Spec

/-! ## Words with a sign, in range -/

theorem int_add {x y : BitVec 32} (lo : -2147483648 ≤ x.toInt + y.toInt) (hi : x.toInt + y.toInt < 2147483648) :
    (x + y).toInt = x.toInt + y.toInt := by
  rw [BitVec.toInt_add, Int.bmod_eq_of_le] <;> norm_num <;> omega

theorem int_sub {x y : BitVec 32} (lo : -2147483648 ≤ x.toInt - y.toInt) (hi : x.toInt - y.toInt < 2147483648) :
    (x - y).toInt = x.toInt - y.toInt := by
  rw [BitVec.toInt_sub, Int.bmod_eq_of_le] <;> norm_num <;> omega

theorem int_narrow {x : BitVec 32} (lo : -32768 ≤ x.toInt) (hi : x.toInt ≤ 32767) : (x.setWidth 16).toInt = x.toInt := by
  have e := BitVec.toInt_eq_toNat_cond x
  have f := BitVec.toInt_eq_toNat_cond (x.setWidth 16)
  rw [BitVec.toNat_setWidth] at f
  have := x.isLt
  split at e <;> split at f <;> omega

theorem int_small {x : BitVec 32} (h : x.toNat < 2147483648) : x.toInt = x.toNat := by
  rw [BitVec.toInt_eq_toNat_cond]; split <;> omega

theorem ofBool_one (b : Bool) : BitVec.ofBool b = 1#1 ↔ b = true := by cases b <;> decide

theorem sle_one {w : ℕ} (x y : BitVec w) : IntOp.cmpi .sle x y = 1#1 ↔ x.toInt ≤ y.toInt := by
  show BitVec.ofBool (x.sle y) = 1#1 ↔ _
  rw [ofBool_one]; simp [BitVec.sle]

theorem slt_one {w : ℕ} (x y : BitVec w) : IntOp.cmpi .slt x y = 1#1 ↔ x.toInt < y.toInt := by
  show BitVec.ofBool (x.slt y) = 1#1 ↔ _
  rw [ofBool_one]; simp [BitVec.slt]

theorem eq_one {w : ℕ} (x y : BitVec w) : IntOp.cmpi .eq x y = 1#1 ↔ x = y := by
  show BitVec.ofBool (x == y) = 1#1 ↔ _
  rw [ofBool_one]; simp

/-! ## The search of one row -/

variable {R : ℕ} [h : Fits R]

/-- How many lanes of a row satisfy a proposition. -/
abbrev many (P : Fin 4096 → Prop) [DecidablePred P] : ℕ := (Finset.univ.filter P).card

theorem many_le (P : Fin 4096 → Prop) [DecidablePred P] : many P ≤ 4096 := (Finset.card_filter_le _ _).trans (by simp)
theorem many_mono {P Q : Fin 4096 → Prop} [DecidablePred P] [DecidablePred Q] (hPQ : ∀ l, P l → Q l) : many P ≤ many Q :=
  Finset.card_le_card fun l hl => by simp only [Finset.mem_filter, Finset.mem_univ, true_and] at hl ⊢; exact hPQ l hl
theorem many_congr {P Q : Fin 4096 → Prop} [DecidablePred P] [DecidablePred Q] (hPQ : ∀ l, P l ↔ Q l) : many P = many Q :=
  le_antisymm (many_mono fun l => (hPQ l).1) (many_mono fun l => (hPQ l).2)
theorem many_none {P : Fin 4096 → Prop} [DecidablePred P] (hP : ∀ l, ¬ P l) : many P = 0 := by
  simp only [many, Finset.card_eq_zero, Finset.filter_eq_empty_iff]; exact fun l _ => hP l
theorem many_all {P : Fin 4096 → Prop} [DecidablePred P] (hP : ∀ l, P l) : many P = 4096 := by
  simp only [many]; rw [Finset.filter_true_of_mem fun l _ => hP l]; simp
theorem many_or {P Q S : Fin 4096 → Prop} [DecidablePred P] [DecidablePred Q] [DecidablePred S] (hS : ∀ l, S l ↔ P l ∨ Q l)
    (hd : ∀ l, P l → ¬ Q l) : many S = many P + many Q := by
  simp only [many]
  rw [← Finset.card_union_of_disjoint]
  · congr 1; ext l; simp [hS]
  · rw [Finset.disjoint_filter]; exact fun l _ hp => hd l hp

theorem up_apply {α : Type} (x : (Sq R 1).Idx → α) (r : Fin R) (l : Fin 4096) : broadcastTo (Sq R 4096) x h.up (ix2 r l) = x (ix2 r 0) := by
  refine broadcastTo_apply x h.up (ix2 r l) (ix2 r 0) fun a => ?_
  fin_cases a
  · show r.val = if R = 1 then 0 else r.val
    split
    · have := r.isLt; omega
    · rfl
  · rfl

theorem count_int (b : IVec (Sq R 4096) 1) (r : Fin R) : (Spec.count b (ix2 r 0)).toInt = (many fun l => b (ix2 r l) = 1#1 : ℕ) := by
  have e := Count.lanes b r 0
  have := many_le fun l => b (ix2 r l) = 1#1
  rw [int_small (by rw [e]; exact lt_of_le_of_lt this (by norm_num)), e]

theorem countLe_int (v : IVec (Sq R 4096) 16) (m : IVec (Sq R 1) 32) (r : Fin R) (lo : -32768 ≤ (m (ix2 r 0)).toInt) (hi : (m (ix2 r 0)).toInt ≤ 32767) :
    (countLe v m (ix2 r 0)).toInt = (many fun l => (v (ix2 r l)).toInt ≤ (m (ix2 r 0)).toInt : ℕ) := by
  unfold countLe
  rw [count_int]
  refine congrArg _ (many_congr fun l => ?_)
  show IntOp.cmpi .sle (v (ix2 r l)) (broadcastTo (Sq R 4096) (trunci 16 m (by decide)) h.up (ix2 r l)) = 1#1 ↔ _
  rw [sle_one, up_apply]
  show _ ≤ ((m (ix2 r 0)).setWidth 16).toInt ↔ _
  rw [int_narrow lo hi]

/-- What holds of the two ends of a search: they bound the least number with at least `k` lanes at most it. -/
structure Holds (v : Fin 4096 → ℤ) (k : ℕ) (n : ℕ) (lo hi : ℤ) : Prop where
  low : -32768 ≤ lo
  high : hi ≤ 32767
  le : lo ≤ hi
  near : hi - lo ≤ 2 ^ n - 1
  enough : k ≤ many fun l => v l ≤ hi
  few : (many fun l => v l < lo) < k

theorem mid_int (s : IVec (Sq R 1) 32 × IVec (Sq R 1) 32) (r : Fin R) (low : -32768 ≤ (s.1 (ix2 r 0)).toInt)
    (high : (s.2 (ix2 r 0)).toInt ≤ 32767) (le : (s.1 (ix2 r 0)).toInt ≤ (s.2 (ix2 r 0)).toInt) :
    (midOf s (ix2 r 0)).toInt = (s.1 (ix2 r 0)).toInt + ((s.2 (ix2 r 0)).toInt - (s.1 (ix2 r 0)).toInt) / 2 := by
  have e1 : (s.2 (ix2 r 0) - s.1 (ix2 r 0)).toInt = (s.2 (ix2 r 0)).toInt - (s.1 (ix2 r 0)).toInt := int_sub (by omega) (by omega)
  have e2 : ((s.2 (ix2 r 0) - s.1 (ix2 r 0)).sshiftRight' 1#32).toInt = ((s.2 (ix2 r 0)).toInt - (s.1 (ix2 r 0)).toInt) / 2 := by
    rw [BitVec.toInt_sshiftRight', e1, Int.shiftRight_eq_div_pow]; rfl
  show (s.1 (ix2 r 0) + (s.2 (ix2 r 0) - s.1 (ix2 r 0)).sshiftRight' 1#32).toInt = _
  rw [int_add, e2] <;> rw [e2] <;> omega

theorem mid_range {lo hi mid : ℤ} (low : -32768 ≤ lo) (high : hi ≤ 32767) (le : lo ≤ hi) (em : mid = lo + (hi - lo) / 2) :
    -32768 ≤ mid ∧ mid ≤ 32767 := by omega

theorem int_succ {x : BitVec 32} (hx : -32768 ≤ x.toInt ∧ x.toInt ≤ 32767) : (x + 1#32).toInt = x.toInt + 1 := by
  have one : (1#32).toInt = 1 := by decide
  rw [int_add (by rw [one]; omega) (by rw [one]; omega), one]

theorem halves (v : Fin 4096 → ℤ) (K n : ℕ) (lo hi mid : ℤ) (H : Holds v K (n + 1) lo hi) (em : mid = lo + (hi - lo) / 2) :
    ((K ≤ many fun l => v l ≤ mid) → Holds v K n lo mid) ∧ (¬ (K ≤ many fun l => v l ≤ mid) → Holds v K n (mid + 1) hi) := by
  obtain ⟨low, high, le, near, enough, few⟩ := H
  have near' : hi - lo ≤ 2 * 2 ^ n - 1 := by rw [pow_succ] at near; omega
  generalize hN : (2 : ℤ) ^ n = N at near'
  constructor
  · exact fun c => ⟨low, by omega, by omega, by rw [hN]; omega, c, few⟩
  · intro c
    have lt : mid < hi := by
      by_contra hge
      exact c (enough.trans (many_mono fun l hl => le_trans hl (not_lt.1 hge)))
    refine ⟨by omega, high, by omega, by rw [hN]; omega, enough, ?_⟩
    exact lt_of_le_of_lt (many_mono fun l hl => Int.lt_add_one_iff.1 hl) (not_le.1 c)

theorem step_holds (v : IVec (Sq R 4096) 16) (k : IVec (Sq R 1) 32) (K n : ℕ) (r : Fin R) (hk : (k (ix2 r 0)).toInt = K)
    (s : IVec (Sq R 1) 32 × IVec (Sq R 1) 32) (H : Holds (fun l => (v (ix2 r l)).toInt) K (n + 1) (s.1 (ix2 r 0)).toInt (s.2 (ix2 r 0)).toInt) :
    Holds (fun l => (v (ix2 r l)).toInt) K n ((step v k s).1 (ix2 r 0)).toInt ((step v k s).2 (ix2 r 0)).toInt := by
  have em := mid_int s r H.low H.high H.le
  have rng := mid_range H.low H.high H.le em
  obtain ⟨yes, no⟩ := halves _ K n _ _ _ H em
  have ec := countLe_int v (midOf s) r rng.1 rng.2
  have cond : IntOp.cmpi .sge (countLe v (midOf s) (ix2 r 0)) (k (ix2 r 0)) = 1#1
      ↔ K ≤ many fun l => (v (ix2 r l)).toInt ≤ (midOf s (ix2 r 0)).toInt := by
    refine (sle_one (k (ix2 r 0)) (countLe v (midOf s) (ix2 r 0))).trans ?_
    rw [hk, ec]; exact Nat.cast_le
  have e1 := int_succ rng
  generalize hc : cmpi .sge (countLe v (midOf s)) k = c
  have cc : c (ix2 r 0) = IntOp.cmpi .sge (countLe v (midOf s) (ix2 r 0)) (k (ix2 r 0)) := by rw [← hc]; rfl
  rw [← cc] at cond
  have es : step v k s = (select c s.1 (addi (midOf s) (broadcast (Sq R 1) 1#32)), select c (midOf s) s.2) := by rw [← hc]; rfl
  rw [es]
  generalize midOf s = m at *
  clear es hc cc
  show Holds _ K n (if c (ix2 r 0) = 1#1 then s.1 (ix2 r 0) else m (ix2 r 0) + 1#32).toInt (if c (ix2 r 0) = 1#1 then m (ix2 r 0) else s.2 (ix2 r 0)).toInt
  by_cases c1 : c (ix2 r 0) = 1#1
  · rw [if_pos c1, if_pos c1]
    exact yes (cond.1 c1)
  · rw [if_neg c1, if_neg c1, e1]
    exact no fun h => c1 (cond.2 h)

theorem steps_hold (v : IVec (Sq R 4096) 16) (k : IVec (Sq R 1) 32) (K : ℕ) (r : Fin R) (hk : (k (ix2 r 0)).toInt = K) (n : ℕ) :
    ∀ s : IVec (Sq R 1) 32 × IVec (Sq R 1) 32, Holds (fun l => (v (ix2 r l)).toInt) K n (s.1 (ix2 r 0)).toInt (s.2 (ix2 r 0)).toInt →
      Holds (fun l => (v (ix2 r l)).toInt) K 0 (((step v k)^[n] s).1 (ix2 r 0)).toInt (((step v k)^[n] s).2 (ix2 r 0)).toInt := by
  induction n with
  | zero => exact fun s H => H
  | succ n ih =>
    intro s H
    rw [Function.iterate_succ_apply]
    exact ih _ (step_holds v k K n r hk s H)

/-- What a search ends with. -/
theorem search (v : IVec (Sq R 4096) 16) (k : IVec (Sq R 1) 32) (K : ℕ) (r : Fin R) (hk : (k (ix2 r 0)).toInt = K) (n : ℕ)
    (s : IVec (Sq R 1) 32 × IVec (Sq R 1) 32) (H : Holds (fun l => (v (ix2 r l)).toInt) K n (s.1 (ix2 r 0)).toInt (s.2 (ix2 r 0)).toInt) :
    ∃ m : ℤ, (((step v k)^[n] s).1 (ix2 r 0)).toInt = m ∧ -32768 ≤ m ∧ m ≤ 32767 ∧ (many fun l => (v (ix2 r l)).toInt < m) < K
      ∧ K ≤ many fun l => (v (ix2 r l)).toInt ≤ m := by
  obtain ⟨low, high, le, near, enough, few⟩ := steps_hold v k K r hk n s H
  norm_num at near
  have e : (((step v k)^[n] s).2 (ix2 r 0)).toInt = (((step v k)^[n] s).1 (ix2 r 0)).toInt := by omega
  rw [e] at high enough
  exact ⟨_, rfl, low, high, few, enough⟩

/-! ## The word found -/

theorem top_int (w : IVec (Sq R 4096) 32) (i : (Sq R 4096).Idx) (hw : (w i).toNat < 2147483648) : (top w i).toInt = ((w i).toNat / 65536 : ℕ) := by
  have e : ((w i).sshiftRight' 16#32).toInt = ((w i).toNat / 65536 : ℕ) := by
    rw [BitVec.toInt_sshiftRight', int_small (by omega), Int.shiftRight_eq_div_pow]
    norm_num
  show (((w i).sshiftRight' 16#32).setWidth 16).toInt = _
  rw [int_narrow, e] <;> rw [e] <;> omega

theorem low_int (w : IVec (Sq R 4096) 32) (i : (Sq R 4096).Idx) : (low w i).toInt = ((w i).toNat % 65536 : ℕ) - 32768 := by
  have e0 : (w i &&& 65535#32).toNat = (w i).toNat % 65536 := by
    rw [BitVec.toNat_and]; exact Nat.and_two_pow_sub_one_eq_mod (w i).toNat 16
  have e1 : (w i &&& 65535#32).toInt = ((w i).toNat % 65536 : ℕ) := by rw [int_small (by omega), e0]
  have e2 : ((w i &&& 65535#32) - 32768#32).toInt = ((w i).toNat % 65536 : ℕ) - 32768 := by
    have c : (32768#32).toInt = 32768 := by decide
    rw [int_sub, e1, c] <;> rw [e1, c] <;> omega
  show ((((w i) &&& 65535#32) - 32768#32).setWidth 16).toInt = _
  rw [int_narrow, e2] <;> rw [e2] <;> omega

/-- THE WORD FOUND, in a row with at least 64 words of finite numbers: fewer than 64 words of the row are below it, and at least 64 are
    at most it. -/
theorem found (w : IVec (Sq R 4096) 32) (r : Fin R) (hw : ∀ l, (w (ix2 r l)).toNat < 2147483648)
    (hf : 64 ≤ many fun l => (w (ix2 r l)).toNat < 2139095040) :
    ∃ T : BitVec 32, kth (F := Ideal) w (ix2 r 0) = Words.val T ∧ T.toNat < 2139095040
      ∧ (many fun l => (w (ix2 r l)).toNat < T.toNat) < 64 ∧ 64 ≤ many fun l => (w (ix2 r l)).toNat ≤ T.toNat := by
  -- the upper half
  have c0 : (0#32).toInt = 0 := by decide
  have c1 : (32640#32).toInt = 32640 := by decide
  have c2 : (4294934528#32).toInt = -32768 := by decide
  have c3 : (32767#32).toInt = 32767 := by decide
  have c4 : (32768#32).toInt = 32768 := by decide
  have tops := fun l => top_int w (ix2 r l) (hw l)
  obtain ⟨H, eH, -, -, fewH, enoughH⟩ := search (top w) (broadcast (Sq R 1) 64#32) 64 r rfl 15
    (broadcast (Sq R 1) 0#32, broadcast (Sq R 1) 32640#32) (by
      show Holds _ 64 15 (0#32).toInt (32640#32).toInt
      rw [c0, c1]
      refine ⟨by norm_num, by norm_num, by norm_num, by norm_num, ?_, ?_⟩
      · refine hf.trans (many_mono fun l hl => ?_)
        rw [tops]; omega
      · rw [many_none]
        · norm_num
        · intro l; rw [tops]; omega)
  have eH' : (topAt w (ix2 r 0)).toInt = H := eH
  have H0 : 0 ≤ H := by
    by_contra hn
    rw [many_none] at enoughH
    · omega
    · intro l; rw [tops]; omega
  have H1 : H < 32640 := by
    by_contra hn
    refine absurd fewH (not_lt.2 (hf.trans (many_mono fun l hl => ?_)))
    rw [tops]; omega
  obtain ⟨h0, rfl⟩ := Int.eq_ofNat_of_zero_le H0
  have at16 : ∀ l, (topAt16 w (ix2 r l)).toInt = h0 := fun l => by
    unfold topAt16
    rw [up_apply]
    show ((topAt w (ix2 r 0)).setWidth 16).toInt = _
    rw [int_narrow, eH'] <;> rw [eH'] <;> omega
  have fewH' : (many fun l => (w (ix2 r l)).toNat / 65536 < h0) < 64 := by
    refine lt_of_le_of_lt (many_mono fun l hl => ?_) fewH
    rw [tops]; omega
  have enoughH' : 64 ≤ many fun l => (w (ix2 r l)).toNat / 65536 ≤ h0 := by
    refine enoughH.trans (many_mono fun l hl => ?_)
    rw [tops] at hl; omega
  -- how many are left
  have en : (need w (ix2 r 0)).toInt = (64 - (many fun l => (w (ix2 r l)).toNat / 65536 < h0) : ℕ) := by
    have e : (Spec.count (cmpi .slt (top w) (topAt16 w)) (ix2 r 0)).toInt = (many fun l => (w (ix2 r l)).toNat / 65536 < h0 : ℕ) := by
      rw [count_int]
      refine congrArg _ (many_congr fun l => ?_)
      show IntOp.cmpi .slt (top w (ix2 r l)) (topAt16 w (ix2 r l)) = 1#1 ↔ _
      rw [slt_one, tops, at16]; omega
    have c : (64#32).toInt = 64 := by decide
    show (64#32 - Spec.count (cmpi .slt (top w) (topAt16 w)) (ix2 r 0)).toInt = _
    rw [int_sub (by rw [e, c]; omega) (by rw [e, c]; omega), e, c]; omega
  -- the lower half
  have lows : ∀ l, (lowAmong w (ix2 r l)).toInt = if (w (ix2 r l)).toNat / 65536 = h0 then (((w (ix2 r l)).toNat % 65536 : ℕ) : ℤ) - 32768 else 32767 := fun l => by
    have c : IntOp.cmpi .eq (top w (ix2 r l)) (topAt16 w (ix2 r l)) = 1#1 ↔ (w (ix2 r l)).toNat / 65536 = h0 := by
      rw [eq_one, ← BitVec.toInt_inj, tops, at16]; omega
    by_cases hc : (w (ix2 r l)).toNat / 65536 = h0
    · have e : lowAmong w (ix2 r l) = low w (ix2 r l) := if_pos (c.2 hc)
      rw [e, low_int, if_pos hc]
    · have e : lowAmong w (ix2 r l) = 32767#16 := if_neg fun hh => hc (c.1 hh)
      rw [e, if_neg hc]; decide
  obtain ⟨L, eL, L0, L1, fewL, enoughL⟩ := search (lowAmong w) (need w) _ r en 16
    (broadcast (Sq R 1) 4294934528#32, broadcast (Sq R 1) 32767#32) (by
      show Holds _ _ 16 (4294934528#32).toInt (32767#32).toInt
      rw [c2, c3]
      refine ⟨by norm_num, by norm_num, by norm_num, by norm_num, ?_, ?_⟩
      · rw [many_all (P := fun l => (lowAmong w (ix2 r l)).toInt ≤ 32767) fun l => by rw [lows]; split <;> omega]
        omega
      · rw [many_none (P := fun l => (lowAmong w (ix2 r l)).toInt < -32768) fun l => by rw [lows]; split <;> omega]
        omega)
  have eL' : (lowAt w (ix2 r 0)).toInt = L := eL
  obtain ⟨l0, hl0⟩ := Int.eq_ofNat_of_zero_le (show 0 ≤ L + 32768 by omega)
  -- the word
  have nH : (topAt w (ix2 r 0)).toNat = h0 := by
    have e := BitVec.toInt_eq_toNat_cond (topAt w (ix2 r 0))
    have := (topAt w (ix2 r 0)).isLt
    rw [eH'] at e
    split at e <;> omega
  have nL : (lowAt w (ix2 r 0) + 32768#32).toNat = l0 := by
    have e1 : (lowAt w (ix2 r 0) + 32768#32).toInt = l0 := by rw [int_add (by rw [eL', c4]; omega) (by rw [eL', c4]; omega), eL', c4]; omega
    have e := BitVec.toInt_eq_toNat_cond (lowAt w (ix2 r 0) + 32768#32)
    have := (lowAt w (ix2 r 0) + 32768#32).isLt
    rw [e1] at e
    split at e <;> omega
  have nT : ((topAt w (ix2 r 0)) <<< 16#32 ||| (lowAt w (ix2 r 0) + 32768#32)).toNat = h0 * 65536 + l0 := by
    have e16 : (topAt w (ix2 r 0) <<< 16#32).toNat = h0 <<< 16 := by
      rw [BitVec.shiftLeft_eq', BitVec.toNat_shiftLeft, nH]
      show h0 <<< 16 % _ = _
      rw [Nat.shiftLeft_eq]; omega
    rw [BitVec.toNat_or, e16, nL, ← Nat.shiftLeft_add_eq_or_of_lt (by omega), Nat.shiftLeft_eq]
  have fewT : (many fun l => (w (ix2 r l)).toNat < h0 * 65536 + l0) < 64 := by
    have e := many_or (P := fun l => (w (ix2 r l)).toNat / 65536 < h0) (Q := fun l => (w (ix2 r l)).toNat / 65536 = h0 ∧ (w (ix2 r l)).toNat % 65536 < l0)
      (S := fun l => (w (ix2 r l)).toNat < h0 * 65536 + l0) (fun l => by constructor <;> intro <;> omega) (fun l => by omega)
    have f : (many fun l => (w (ix2 r l)).toNat / 65536 = h0 ∧ (w (ix2 r l)).toNat % 65536 < l0) ≤ many fun l => (lowAmong w (ix2 r l)).toInt < L :=
      many_mono fun l hl => by rw [lows, if_pos hl.1]; omega
    omega
  have enoughT : 64 ≤ many fun l => (w (ix2 r l)).toNat ≤ h0 * 65536 + l0 := by
    by_cases hL : L = 32767
    · refine enoughH'.trans (many_mono fun l hl => by omega)
    · have e := many_or (P := fun l => (w (ix2 r l)).toNat / 65536 < h0) (Q := fun l => (w (ix2 r l)).toNat / 65536 = h0 ∧ (w (ix2 r l)).toNat % 65536 ≤ l0)
        (S := fun l => (w (ix2 r l)).toNat ≤ h0 * 65536 + l0) (fun l => by constructor <;> intro <;> omega) (fun l => by omega)
      have f : (many fun l => (lowAmong w (ix2 r l)).toInt ≤ L) ≤ many fun l => (w (ix2 r l)).toNat / 65536 = h0 ∧ (w (ix2 r l)).toNat % 65536 ≤ l0 :=
        many_mono fun l hl => by
          rw [lows] at hl
          split at hl
          · rename_i hc; exact ⟨hc, by omega⟩
          · omega
      omega
  refine ⟨_, rfl, ?_, ?_, ?_⟩
  · refine lt_of_eq_of_lt nT ?_; omega
  · refine lt_of_le_of_lt (many_mono fun l hl => ?_) fewT
    exact lt_of_lt_of_eq hl nT
  · refine enoughT.trans (many_mono fun l hl => ?_)
    exact le_of_le_of_eq hl nT.symm

end Cert.Proof.Search

end
-- ==== Proof.Noise.lean ====
/-
  The noise level of a row: the sum of its 64 smallest powers over 64, as the reference sorts them, is the sum of the powers
  below the 64th smallest and as many copies of that one as are left, over 64.
-/
module

public import proofs.«01_k».proof.Proof.Search
public import Idealize.ShloMosaic.Lib.SortFacts

@[expose] public section

noncomputable section

namespace Cert.Proof.Noise

open Idealize.ShloMosaic Idealize.ShloMosaic.ValueIdx
open Spec Search

/-- The order in which the reference takes the powers of a row: by their negatives, the greatest first. -/
def order (x : Fin 4096 → EReal) : Fin 4096 → Fin 4096 :=
  sortedFrom fun k k' => Ideal.cmpTotal .gt (-x k) (-x k') == 1#1

/-- The place of one of the first 64 of a row. -/
def among (i : Fin 64) : Fin 4096 := Fin.castLE (by norm_num) i

/-- THE NOISE LEVEL of a row of powers: the mean of the 64 smallest. -/
def level (x : Fin 4096 → EReal) : EReal :=
  Ideal.div (∑ i : Fin 64, -(-x (order x (among i)))) (Ideal.ofBits .f32 0x42800000#32)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The 64th smallest of a row. -/
def last (x : Fin 4096 → EReal) : EReal := x (order x (among 63))

/-! ## The smallest 64 of a row of real numbers -/

theorem many_perm (σ : Fin 4096 → Fin 4096) (hσ : Function.Bijective σ) (P : Fin 4096 → Prop) [DecidablePred P] :
    many (fun i => P (σ i)) = many P := by
  simp only [many, Finset.card_filter]
  exact (Equiv.ofBijective σ hσ).sum_comp fun l => if P l then 1 else 0

theorem many_lt (i : Fin 4096) : (many fun j => j < i) = i.val := by
  have e : (Finset.univ.filter fun j : Fin 4096 => j < i) = Finset.Iio i := by ext j; simp
  rw [many, e, Fin.card_Iio]

theorem many_le_at (i : Fin 4096) : (many fun j => j ≤ i) = i.val + 1 := by
  have e : (Finset.univ.filter fun j : Fin 4096 => j ≤ i) = Finset.Iic i := by ext j; simp
  rw [many, e, Fin.card_Iic]

theorem sum_among (f : Fin 4096 → ℝ) (hf : ∀ i : Fin 4096, 64 ≤ i.val → f i = 0) : ∑ i : Fin 64, f (among i) = ∑ i, f i := by
  have e := Fin.sum_univ_add (a := 64) (b := 4032) (f := fun i : Fin (64 + 4032) => f i)
  refine Eq.trans ?_ e.symm
  have z : ∑ i : Fin 4032, f (Fin.natAdd 64 i) = 0 := Finset.sum_eq_zero fun i _ => hf _ (by simp)
  rw [z, add_zero]
  rfl

theorem least (q : Fin 4096 → ℝ) (τ : ℝ) (σ : Fin 4096 → Fin 4096) (hσ : Function.Bijective σ)
    (mono : ∀ i j, i < j → q (σ i) ≤ q (σ j)) (few : (many fun l => q l < τ) < 64) (enough : 64 ≤ many fun l => q l ≤ τ) :
    ∑ i : Fin 64, q (σ (among i)) = ∑ l, q l * (if q l < τ then 1 else 0) + (64 - ∑ l, if q l < τ then (1 : ℝ) else 0) * τ := by
  have mono' : ∀ i j, i ≤ j → q (σ i) ≤ q (σ j) := fun i j hij => by
    rcases hij.lt_or_eq with h | rfl
    · exact mono i j h
    · exact le_rfl
  have front : ∀ i : Fin 4096, i.val < 64 → q (σ i) ≤ τ := fun i hi => by
    by_contra hn
    have e := many_perm σ hσ fun l => q l ≤ τ
    have : (many fun j => q (σ j) ≤ τ) ≤ many fun j => j < i := many_mono fun j hj => by
      by_contra hji
      exact hn ((mono' i j (not_lt.1 hji)).trans hj)
    rw [many_lt] at this
    omega
  have back : ∀ i : Fin 4096, 64 ≤ i.val → τ ≤ q (σ i) := fun i hi => by
    by_contra hn
    have e := many_perm σ hσ fun l => q l < τ
    have : (many fun j => j ≤ i) ≤ many fun j => q (σ j) < τ := many_mono fun j hj => (mono' j i hj).trans_lt (not_le.1 hn)
    rw [many_le_at] at this
    omega
  have a1 : ∑ i : Fin 64, (q (σ (among i)) - τ) = ∑ i : Fin 64, min (q (σ (among i)) - τ) 0 :=
    Finset.sum_congr rfl fun i _ => (min_eq_left (by have := front (among i) i.isLt; linarith)).symm
  have a2 : ∑ i : Fin 64, min (q (σ (among i)) - τ) 0 = ∑ i, min (q (σ i) - τ) 0 :=
    sum_among (fun i => min (q (σ i) - τ) 0) fun i hi => min_eq_right (by have := back i hi; linarith)
  have a3 : ∑ i, min (q (σ i) - τ) 0 = ∑ l, min (q l - τ) 0 := (Equiv.ofBijective σ hσ).sum_comp fun l => min (q l - τ) 0
  have a4 : ∑ l, min (q l - τ) 0 = ∑ l, (q l * (if q l < τ then 1 else 0) - (if q l < τ then (1 : ℝ) else 0) * τ) :=
    Finset.sum_congr rfl fun l _ => by
      by_cases h : q l < τ
      · rw [if_pos h, min_eq_left (by linarith)]; ring
      · rw [if_neg h, min_eq_right (by linarith)]; ring
  have a5 : ∑ i : Fin 64, (q (σ (among i)) - τ) = ∑ i : Fin 64, q (σ (among i)) - 64 * τ := by
    rw [Finset.sum_sub_distrib]; simp
  have a6 : ∑ l, (q l * (if q l < τ then 1 else 0) - (if q l < τ then (1 : ℝ) else 0) * τ)
      = ∑ l, q l * (if q l < τ then 1 else 0) - (∑ l, if q l < τ then (1 : ℝ) else 0) * τ := by
    rw [Finset.sum_sub_distrib, Finset.sum_mul]
  linarith

/-! ## The order -/

theorem order_bijective (x : Fin 4096 → EReal) : Function.Bijective (order x) := ⟨sortedFrom_injective _, sortedFrom_surjective _⟩

theorem order_mono (x : Fin 4096 → EReal) (i j : Fin 4096) (hij : i < j) : x (order x i) ≤ x (order x j) := by
  have t : ∀ a b : Fin 4096, (Ideal.cmpTotal .gt (-x a) (-x b) == 1#1) = decide (x a < x b) := fun a b => by
    have e : Ideal.cmpTotal .gt (-x a) (-x b) = BitVec.ofBool (decide (-x b < -x a)) := rfl
    rw [e]
    by_cases h : x a < x b
    · rw [decide_eq_true (EReal.neg_lt_neg_iff.2 h), decide_eq_true h]; rfl
    · rw [decide_eq_false (mt EReal.neg_lt_neg_iff.1 h), decide_eq_false h]; rfl
  have n := sortedFrom_noInversion (fun k k' => Ideal.cmpTotal .gt (-x k) (-x k') == 1#1)
    (fun k k' => Ideal.cmpTotal .gt (-x k) (-x k') == 1#1)
    (fun a b h => by rw [t] at h ⊢; simp only [decide_eq_true_eq, decide_eq_false_iff_not] at h ⊢; exact not_lt.2 h.le)
    (fun a b h => h)
    (fun a b c h h' => by rw [t] at h h' ⊢; simp only [decide_eq_false_iff_not, not_lt] at h h' ⊢; exact h'.trans h) i j hij
  rw [t] at n
  exact not_lt.1 (of_decide_eq_false n)

theorem order_mono' (x : Fin 4096 → EReal) (i j : Fin 4096) (hij : i ≤ j) : x (order x i) ≤ x (order x j) := by
  rcases hij.lt_or_eq with h | rfl
  · exact order_mono x i j h
  · exact le_rfl

/-- At least 64 lanes are at most the 64th smallest. -/
theorem at_most_last (x : Fin 4096 → EReal) : 64 ≤ many fun l => x l ≤ last x := by
  rw [← many_perm (order x) (order_bijective x)]
  refine le_of_eq_of_le (many_le_at (among 63)).symm (many_mono fun j hj => order_mono' x j _ hj)

/-- What has fewer than 64 lanes below it is at most the 64th smallest. -/
theorem le_last (x : Fin 4096 → EReal) (c : EReal) (few : (many fun l => x l < c) < 64) : c ≤ last x := by
  by_contra hn
  rw [← many_perm (order x) (order_bijective x)] at few
  refine absurd few (not_lt.2 (le_of_eq_of_le (many_le_at (among 63)).symm (many_mono fun j hj => ?_)))
  exact (order_mono' x j _ hj).trans_lt (not_le.1 hn)

/-- What has at least 64 lanes below it is above the 64th smallest. -/
theorem last_lt (x : Fin 4096 → EReal) (c : EReal) (enough : 64 ≤ many fun l => x l < c) : last x < c := by
  by_contra hn
  rw [← many_perm (order x) (order_bijective x)] at enough
  have a : (many fun j => x (order x j) < c) ≤ many fun j => j < among 63 := many_mono fun j hj => by
    by_contra hji
    exact hn ((order_mono' x _ j (not_lt.1 hji)).trans_lt hj)
  rw [many_lt] at a
  have e : (among 63).val = 63 := rfl
  omega

/-! ## The kernel's noise level -/

variable {R : ℕ} [h : Fits R]

theorem rowSum_apply (v : FVec Ideal (Sq R 4096) .f32) (r : Fin R) : rowSum v (ix2 r 0) = ∑ l : Fin 4096, v (ix2 r l) := by
  unfold rowSum
  refine (Count.col_apply _ r 0).trans ((Ideal.multiReduction_add_single v _ h.red4096 _ _ (ix1 r)).trans ?_)
  refine Finset.sum_congr rfl fun k _ => congrArg v ?_
  funext a; apply Fin.ext; fin_cases a <;> rfl

theorem below_apply (p : FVec Ideal (Sq R 4096) .f32) (t : FVec Ideal (Sq R 1) .f32) (r : Fin R) (l : Fin 4096) (q τ : ℝ)
    (hc : p (ix2 r l) < t (ix2 r 0) ↔ q < τ) : below p t (ix2 r l) = ((if q < τ then 1 else 0 : ℝ) : EReal) := by
  have e : below p t (ix2 r l)
      = ((((BitVec.ofBool (decide (p (ix2 r l) < broadcastTo (Sq R 4096) t h.up (ix2 r l)))).setWidth 32).toInt : ℝ) : EReal) := rfl
  rw [e, up_apply]
  by_cases hq : q < τ
  · simp [hq, hc.2 hq]
  · simp [hq, mt hc.1 hq]

theorem c64 : Ideal.ofBits .f32 0x42800000#32 = ((64 : ℝ) : EReal) := by
  simp [Ideal.ofBits, Ideal.ieee, -EReal.coe_mul]; norm_num
theorem c64inv : Ideal.ofBits .f32 0x3C800000#32 = ((1 / 64 : ℝ) : EReal) := by
  simp [Ideal.ofBits, Ideal.ieee, -EReal.coe_mul]; norm_num

/-- The number that the kernel finds is the 64th smallest, where that is a float number. -/
theorem kth_row (p : FVec Ideal (Sq R 4096) .f32) (r : Fin R) (x : Fin 4096 → EReal) (hx : ∀ l, p (ix2 r l) = x l) (h0 : ∀ l, 0 ≤ x l)
    (t : BitVec 32) (ht : t.toNat < 2139095040) (hv : last x = Words.val t) : kth (F := Ideal) (word p) (ix2 r 0) = last x := by
  choose w hw using fun l => Words.exists_names (x l) (h0 l)
  have ew : ∀ l, word p (ix2 r l) = w l := fun l => Words.word_apply p (ix2 r l) (w l) (by rw [hx]; exact hw l)
  have fin : ∀ l, x l < ⊤ ↔ (w l).toNat < 2139095040 := fun l => by
    rw [← not_le, ← Words.val_top, (hw l).2 2139095040#32 (by decide) (.inl le_rfl), not_le]; rfl
  have hf : 64 ≤ many fun l => (w l).toNat < 2139095040 := (at_most_last x).trans (many_mono fun l hl => by
    rw [← fin]
    refine hl.trans_lt ?_
    rw [hv, ← Words.val_top, Words.val_lt ht.le le_rfl]; exact ht)
  obtain ⟨T, eT, hT, few, enough⟩ := found (word p) r (fun l => by rw [ew]; exact (hw l).1) (by simp only [ew]; exact hf)
  simp only [ew] at few enough
  have T1 : (T + 1#32).toNat = T.toNat + 1 := by
    rw [BitVec.toNat_add, show (1#32).toNat = 1 from rfl, Nat.mod_eq_of_lt (by omega)]
  have lt : ∀ (a : BitVec 32) (l : Fin 4096), a.toNat ≤ 2139095040 → (x l < Words.val a ↔ (w l).toNat < a.toNat) := fun a l ha => by
    rw [← not_le, (hw l).2 a (by omega) (.inl ha), not_le]
  have lo : Words.val T ≤ last x := le_last x _ (lt_of_le_of_lt (many_mono fun l => (lt T l hT.le).1) few)
  have hi : last x < Words.val (T + 1#32) := last_lt x _ (enough.trans (many_mono fun l hl => (lt _ l (by omega)).2 (by omega)))
  rw [hv, Words.val_le hT.le ht.le] at lo
  rw [hv, Words.val_lt ht.le (by omega)] at hi
  obtain rfl : T = t := BitVec.eq_of_toNat_eq (by omega)
  rw [eT, hv]

/-- THE NOISE LEVEL that the kernel computes for a row whose 64th smallest power is a float number is the reference's. -/
theorem noise_row (p : FVec Ideal (Sq R 4096) .f32) (r : Fin R) (h0 : ∀ l, 0 ≤ p (ix2 r l)) (t : BitVec 32) (ht : t.toNat < 2139095040)
    (hv : last (fun l => p (ix2 r l)) = Words.val t) : Spec.noise p (ix2 r 0) = level fun l => p (ix2 r l) := by
  have hx : ∀ l, p (ix2 r l) = (fun l => p (ix2 r l)) l := fun l => rfl
  generalize (fun l => p (ix2 r l)) = x at hx hv ⊢
  have h0' : ∀ l, 0 ≤ x l := fun l => by rw [← hx]; exact h0 l
  have hk := kth_row p r x hx h0' t ht hv
  obtain ⟨τ, hτ⟩ := Words.val_real ht
  have eτ : last x = ((τ : ℝ) : EReal) := hv.trans hτ
  rw [eτ] at hk
  -- the row with what is far above the 64th smallest brought down, so that it is real
  have ex : ∀ l, ∃ q : ℝ, ((q : ℝ) : EReal) = min (x l) ((τ + 1 : ℝ) : EReal) := fun l =>
    ⟨_, EReal.coe_toReal (ne_of_lt ((min_le_right _ _).trans_lt (EReal.coe_lt_top _)))
      (ne_of_gt ((lt_min ((EReal.bot_lt_zero).trans_le (h0' l)) (EReal.bot_lt_coe _))))⟩
  choose q hq using ex
  have lt : ∀ l, x l < ((τ : ℝ) : EReal) ↔ q l < τ := fun l => by
    rw [← EReal.coe_lt_coe_iff, hq, min_lt_iff, EReal.coe_lt_coe_iff]
    exact ⟨.inl, fun h => h.elim id fun h => absurd h (by linarith)⟩
  have eq : ∀ l, x l ≤ ((τ : ℝ) : EReal) → x l = ((q l : ℝ) : EReal) := fun l hl => by
    rw [hq, min_eq_left (hl.trans (EReal.coe_le_coe_iff.2 (by linarith)))]
  have few : (many fun l => q l < τ) < 64 := by
    by_contra hn
    have e := last_lt x ((τ : ℝ) : EReal) ((not_lt.1 hn).trans (many_mono fun l => (lt l).2))
    rw [eτ] at e
    exact lt_irrefl _ e
  have enough : 64 ≤ many fun l => q l ≤ τ := (at_most_last x).trans (many_mono fun l hl => by
    rw [eτ] at hl
    have e := eq l hl
    rw [e, EReal.coe_le_coe_iff] at hl; exact hl)
  have mono : ∀ i j, i < j → q (order x i) ≤ q (order x j) := fun i j hij => by
    rw [← EReal.coe_le_coe_iff, hq, hq]; exact min_le_min_right _ (order_mono x i j hij)
  have front : ∀ i : Fin 64, x (order x (among i)) = ((q (order x (among i)) : ℝ) : EReal) := fun i => eq _ (by
    rw [← eτ]
    exact order_mono' x _ _ (by show i.val ≤ 63; omega))
  have bl : ∀ l, below p (kth (word p)) (ix2 r l) = ((if q l < τ then 1 else 0 : ℝ) : EReal) := fun l =>
    below_apply p _ r l (q l) τ (by rw [hk, hx]; exact lt l)
  have s1 : rowSum (below p (kth (word p))) (ix2 r 0) = ((∑ l, if q l < τ then (1 : ℝ) else 0 : ℝ) : EReal) := by
    rw [rowSum_apply, coe_sum]
    exact Finset.sum_congr rfl fun l _ => bl l
  have s2 : rowSum (mulf p (below p (kth (word p)))) (ix2 r 0) = ((∑ l, q l * (if q l < τ then (1 : ℝ) else 0) : ℝ) : EReal) := by
    rw [rowSum_apply, coe_sum]
    refine Finset.sum_congr rfl fun l _ => ?_
    show p (ix2 r l) * below p (kth (word p)) (ix2 r l) = _
    rw [bl, hx]
    by_cases hl : q l < τ
    · rw [if_pos hl, eq l ((lt l).2 hl).le, EReal.coe_mul]
    · rw [if_neg hl, mul_zero, EReal.coe_zero, mul_zero]
  have e1 : Spec.noise p (ix2 r 0)
      = (rowSum (mulf p (below p (kth (word p)))) (ix2 r 0)
          + (Ideal.ofBits .f32 0x42800000#32 - rowSum (below p (kth (word p))) (ix2 r 0)) * kth (F := Ideal) (word p) (ix2 r 0))
        * Ideal.ofBits .f32 0x3C800000#32 := rfl
  have L := least q τ (order x) (order_bijective x) mono few enough
  rw [e1, s1, s2, hk, c64, c64inv]
  unfold level
  rw [c64, Ideal.div_coe (by norm_num)]
  simp only [neg_neg, front]
  rw [← coe_sum, L]
  norm_cast

end Cert.Proof.Noise

end
-- ==== Proof.Turn.lean ====
/-
  The cosine and the sine of a finite phase: the polynomials in nested form and the sign taken from bits of the number of
  quarter turns are the polynomials written out and chosen by that number modulo four.
-/
module

public import proofs.«01_k».proof.Proof.Words

@[expose] public section

noncomputable section

namespace Cert.Proof.Turn

open Idealize.ShloMosaic
open Spec

/-! ## The reference's formulas of one phase -/

def quarters (x : EReal) : EReal := Ideal.liftRound Ideal.roundHalfEven (x * Ideal.ofBits .f32 0x3F22F983#32)
def left (x : EReal) : EReal :=
  x - quarters x * Ideal.ofBits .f32 0x3FC90FDB#32 - quarters x * Ideal.ofBits .f32 0xB33BBD2E#32
def cosOf (r : EReal) : EReal :=
  Ideal.ofBits .f32 0x3F800000#32 - r * r * Ideal.ofBits .f32 0x3F000000#32 + r * r * (r * r) * Ideal.ofBits .f32 0x3D2AAAAB#32
    - r * r * (r * r * (r * r)) * Ideal.ofBits .f32 0x3AB60B61#32 + r * r * (r * r) * (r * r * (r * r)) * Ideal.ofBits .f32 0x37D00D01#32
def sinOf (r : EReal) : EReal :=
  r - r * r * r * Ideal.ofBits .f32 0x3E2AAAAB#32 + r * (r * r * (r * r)) * Ideal.ofBits .f32 0x3C088889#32
    - r * (r * r) * (r * r * (r * r)) * Ideal.ofBits .f32 0x39500D01#32
def quad (x : EReal) : BitVec 32 := Ideal.fptosi 32 (quarters x) &&& 3#32
/-- One of four by the quarter turn. -/
def choose4 (n : BitVec 32) (a b c d : EReal) : EReal := if n = 0#32 then a else if n = 1#32 then b else if n = 2#32 then c else d
/-- The cosine of a phase. -/
def cosR (x : EReal) : EReal := choose4 (quad x) (cosOf (left x)) (-sinOf (left x)) (-cosOf (left x)) (sinOf (left x))
/-- The sine of a phase. -/
def sinR (x : EReal) : EReal := choose4 (quad x) (sinOf (left x)) (cosOf (left x)) (-sinOf (left x)) (-cosOf (left x))

/-! ## The nested polynomials -/

theorem one_eq : Ideal.ofBits .f32 0x3F800000#32 = ((1 : ℝ) : EReal) := by
  simp [Ideal.ofBits, Ideal.ieee, -EReal.coe_mul]; norm_num
theorem neg_one_eq : Ideal.ofBits .f32 0xBF800000#32 = ((-1 : ℝ) : EReal) := by
  simp [Ideal.ofBits, Ideal.ieee, -EReal.coe_mul]; norm_num
theorem half_eq : Ideal.ofBits .f32 0xBF000000#32 = -Ideal.ofBits .f32 0x3F000000#32 := by
  simp [Ideal.ofBits, Ideal.ieee, -EReal.coe_mul]
theorem c6_eq : Ideal.ofBits .f32 0xBAB60B61#32 = -Ideal.ofBits .f32 0x3AB60B61#32 := by
  simp [Ideal.ofBits, Ideal.ieee, -EReal.coe_mul]
theorem s3_eq : Ideal.ofBits .f32 0xBE2AAAAB#32 = -Ideal.ofBits .f32 0x3E2AAAAB#32 := by
  simp [Ideal.ofBits, Ideal.ieee, -EReal.coe_mul]
theorem s7_eq : Ideal.ofBits .f32 0xB9500D01#32 = -Ideal.ofBits .f32 0x39500D01#32 := by
  simp [Ideal.ofBits, Ideal.ieee, -EReal.coe_mul]
theorem low_eq : Ideal.ofBits .f32 0xB33BBD2E#32 = -Ideal.ofBits .f32 0x333BBD2E#32 := by
  simp [Ideal.ofBits, Ideal.ieee, -EReal.coe_mul]

theorem real_of (b : BitVec 32) (h : b.toNat < 2139095040) : ∃ r : ℝ, Ideal.ofBits .f32 b = (r : EReal) := Words.val_real h

theorem left_real (x : ℝ) : ∃ r : ℝ, left x = (r : EReal) := by
  obtain ⟨a, ha⟩ := real_of 0x3F22F983#32 (by decide)
  obtain ⟨b, hb⟩ := real_of 0x3FC90FDB#32 (by decide)
  obtain ⟨c, hc⟩ := real_of 0x333BBD2E#32 (by decide)
  have q : quarters (x : EReal) = (((Ideal.roundHalfEven (x * a) : ℤ) : ℝ) : EReal) := by
    unfold quarters; rw [ha, ← EReal.coe_mul]; rfl
  unfold left
  rw [q, low_eq, hb, hc]
  exact ⟨x - (Ideal.roundHalfEven (x * a) : ℤ) * b - (Ideal.roundHalfEven (x * a) : ℤ) * -c, by norm_cast⟩

def cosN (r : EReal) : EReal :=
  Ideal.ofBits .f32 0x3F800000#32 + r * r * (Ideal.ofBits .f32 0xBF000000#32 + r * r * (Ideal.ofBits .f32 0x3D2AAAAB#32
    + r * r * (Ideal.ofBits .f32 0xBAB60B61#32 + r * r * Ideal.ofBits .f32 0x37D00D01#32)))
def sinN (r : EReal) : EReal :=
  r * (Ideal.ofBits .f32 0x3F800000#32 + r * r * (Ideal.ofBits .f32 0xBE2AAAAB#32
    + r * r * (Ideal.ofBits .f32 0x3C088889#32 + r * r * Ideal.ofBits .f32 0xB9500D01#32)))

theorem cosN_eq (r : ℝ) : cosN r = cosOf r ∧ ∃ v : ℝ, cosOf (r : EReal) = (v : EReal) := by
  obtain ⟨c2, h2⟩ := real_of 0x3F000000#32 (by decide)
  obtain ⟨c4, h4⟩ := real_of 0x3D2AAAAB#32 (by decide)
  obtain ⟨c6, h6⟩ := real_of 0x3AB60B61#32 (by decide)
  obtain ⟨c8, h8⟩ := real_of 0x37D00D01#32 (by decide)
  have e : cosOf (r : EReal) = ((1 - r * r * c2 + r * r * (r * r) * c4 - r * r * (r * r * (r * r)) * c6 + r * r * (r * r) * (r * r * (r * r)) * c8 : ℝ) : EReal) := by
    unfold cosOf
    rw [one_eq, h2, h4, h6, h8]
    norm_cast
  refine ⟨?_, _, e⟩
  rw [e]
  unfold cosN
  rw [one_eq, half_eq, c6_eq, h2, h4, h6, h8]
  norm_cast
  ring

theorem sinN_eq (r : ℝ) : sinN r = sinOf r ∧ ∃ v : ℝ, sinOf (r : EReal) = (v : EReal) := by
  obtain ⟨c3, h3⟩ := real_of 0x3E2AAAAB#32 (by decide)
  obtain ⟨c5, h5⟩ := real_of 0x3C088889#32 (by decide)
  obtain ⟨c7, h7⟩ := real_of 0x39500D01#32 (by decide)
  have e : sinOf (r : EReal) = ((r - r * r * r * c3 + r * (r * r * (r * r)) * c5 - r * (r * r) * (r * r * (r * r)) * c7 : ℝ) : EReal) := by
    unfold sinOf
    rw [h3, h5, h7]
    norm_cast
  refine ⟨?_, _, e⟩
  rw [e]
  unfold sinN
  rw [one_eq, s3_eq, s7_eq, h3, h5, h7]
  norm_cast
  ring

/-! ## The quarter turn from bits -/

def signOf (b : BitVec 32) : EReal := if b ≠ 0#32 then Ideal.ofBits .f32 0xBF800000#32 else Ideal.ofBits .f32 0x3F800000#32

theorem four (n : BitVec 32) : n &&& 3#32 = 0#32 ∨ n &&& 3#32 = 1#32 ∨ n &&& 3#32 = 2#32 ∨ n &&& 3#32 = 3#32 := by
  have e : (n &&& 3#32).toNat < 4 := by
    rw [BitVec.toNat_and]
    exact lt_of_le_of_lt Nat.and_le_right (by decide)
  generalize n &&& 3#32 = m at *
  have : m.toNat = 0 ∨ m.toNat = 1 ∨ m.toNat = 2 ∨ m.toNat = 3 := by omega
  rcases this with h | h | h | h
  · exact .inl (BitVec.eq_of_toNat_eq h)
  · exact .inr (.inl (BitVec.eq_of_toNat_eq h))
  · exact .inr (.inr (.inl (BitVec.eq_of_toNat_eq h)))
  · exact .inr (.inr (.inr (BitVec.eq_of_toNat_eq h)))

theorem bit1 (n : BitVec 32) : n &&& 1#32 = (n &&& 3#32) &&& 1#32 := by rw [BitVec.and_assoc]; rfl
theorem bit2 (n : BitVec 32) : n &&& 2#32 = (n &&& 3#32) &&& 2#32 := by rw [BitVec.and_assoc]; rfl
theorem bit2_succ (n : BitVec 32) : (n + 1#32) &&& 2#32 = ((n &&& 3#32) + 1#32) &&& 2#32 := by
  have key : ∀ m : BitVec 32, (m &&& 3#32).toNat = m.toNat % 4 := fun m => by
    rw [BitVec.toNat_and]; exact Nat.and_two_pow_sub_one_eq_mod m.toNat 2
  have e : (n + 1#32) &&& 3#32 = ((n &&& 3#32) + 1#32) &&& 3#32 := by
    apply BitVec.eq_of_toNat_eq
    have o : (1#32).toNat = 1 := rfl
    rw [key, key, BitVec.toNat_add, BitVec.toNat_add, key, o]
    omega
  rw [bit2, e, ← bit2]

theorem cos_turn (n : BitVec 32) (c s : ℝ) : (if n &&& 1#32 ≠ 0#32 then (s : EReal) else c) * signOf ((n + 1#32) &&& 2#32)
    = choose4 (n &&& 3#32) c (-s) (-c) s := by
  rw [bit1, bit2_succ]
  have p : ∀ x : ℝ, (x : EReal) * Ideal.ofBits .f32 0x3F800000#32 = x := fun x => by rw [one_eq, ← EReal.coe_mul, mul_one]
  have m : ∀ x : ℝ, (x : EReal) * Ideal.ofBits .f32 0xBF800000#32 = -x := fun x => by rw [neg_one_eq, ← EReal.coe_mul, mul_neg_one, EReal.coe_neg]
  rcases four n with h | h | h | h <;> rw [h]
  · exact p c
  · exact m s
  · exact m c
  · exact p s

theorem sin_turn (n : BitVec 32) (c s : ℝ) : (if n &&& 1#32 ≠ 0#32 then (c : EReal) else s) * signOf (n &&& 2#32)
    = choose4 (n &&& 3#32) s c (-s) (-c) := by
  rw [bit1, bit2]
  have p : ∀ x : ℝ, (x : EReal) * Ideal.ofBits .f32 0x3F800000#32 = x := fun x => by rw [one_eq, ← EReal.coe_mul, mul_one]
  have m : ∀ x : ℝ, (x : EReal) * Ideal.ofBits .f32 0xBF800000#32 = -x := fun x => by rw [neg_one_eq, ← EReal.coe_mul, mul_neg_one, EReal.coe_neg]
  rcases four n with h | h | h | h <;> rw [h]
  · exact p s
  · exact p c
  · exact m s
  · exact m c

/-! ## The block's cosine and sine -/

variable {R : ℕ} [h : Fits R]

theorem ne_ite (a b : BitVec 32) (x y : EReal) : (if IntOp.cmpi .ne a b = 1#1 then x else y) = if a ≠ b then x else y := by
  have e : IntOp.cmpi .ne a b = BitVec.ofBool (a != b) := rfl
  by_cases hab : a = b
  · subst hab
    rw [e]
    simp
  · have e1 : BitVec.ofBool (a != b) = 1#1 := by rw [bne_iff_ne.2 hab]; rfl
    rw [if_pos (e.trans e1), if_pos hab]

theorem cosV_apply (ph : FVec Ideal (Sq R 4096) .f32) (i : (Sq R 4096).Idx) (x : ℝ) (hx : ph i = (x : EReal)) : cosV ph i = cosR (ph i) := by
  have e : cosV ph i
      = (if IntOp.cmpi .ne (Ideal.fptosi 32 (quarters (ph i)) &&& 1#32) 0#32 = 1#1 then sinN (left (ph i)) else cosN (left (ph i)))
        * (if IntOp.cmpi .ne ((Ideal.fptosi 32 (quarters (ph i)) + 1#32) &&& 2#32) 0#32 = 1#1 then Ideal.ofBits .f32 0xBF800000#32 else Ideal.ofBits .f32 0x3F800000#32) := rfl
  obtain ⟨r, hr⟩ := left_real x
  obtain ⟨ec, c, hc⟩ := cosN_eq r
  obtain ⟨es, s, hs⟩ := sinN_eq r
  rw [e, ne_ite, ne_ite]
  unfold cosR quad
  rw [hx, hr, ec, es, hc, hs]
  exact cos_turn _ c s

theorem sinV_apply (ph : FVec Ideal (Sq R 4096) .f32) (i : (Sq R 4096).Idx) (x : ℝ) (hx : ph i = (x : EReal)) : sinV ph i = sinR (ph i) := by
  have e : sinV ph i
      = (if IntOp.cmpi .ne (Ideal.fptosi 32 (quarters (ph i)) &&& 1#32) 0#32 = 1#1 then cosN (left (ph i)) else sinN (left (ph i)))
        * (if IntOp.cmpi .ne (Ideal.fptosi 32 (quarters (ph i)) &&& 2#32) 0#32 = 1#1 then Ideal.ofBits .f32 0xBF800000#32 else Ideal.ofBits .f32 0x3F800000#32) := rfl
  obtain ⟨r, hr⟩ := left_real x
  obtain ⟨ec, c, hc⟩ := cosN_eq r
  obtain ⟨es, s, hs⟩ := sinN_eq r
  rw [e, ne_ite, ne_ite]
  unfold sinR quad
  rw [hx, hr, ec, es, hc, hs]
  exact sin_turn _ c s

end Cert.Proof.Turn

end
-- ==== Proof.Rows.lean ====
/-
  The result row by row: what the reference's formulas make of a row of magnitudes and a row of phases, the array that they
  make of the argument, and a block of the kernel read as rows of it.
-/
module

public import proofs.«01_k».proof.Proof.Noise
public import proofs.«01_k».proof.Proof.Turn

@[expose] public section

noncomputable section

namespace Cert.Proof.Rows

open Idealize.ShloMosaic Idealize.ShloMosaic.ValueIdx
open Spec Search

/-- The argument's and the result's shape. -/
abbrev Whole : Shape := ⟨4, ![16, 2, 513, 4096]⟩
/-- One of its two planes. -/
abbrev Plane : Shape := ⟨3, ![16, 513, 4096]⟩

/-- The greatest 64 of each row of a plane. -/
abbrev Top64 : Shape := ⟨3, ![16, 513, 64]⟩

/-- A magnitude over the noise level of its row. -/
def overOf (mag : Fin 4096 → EReal) (l : Fin 4096) : EReal :=
  max (mag l - Noise.level fun k => mag k * mag k) (Ideal.ofBits .f32 0x00000000#32)
/-- THE REFERENCE'S RESULT, element by element. -/
def whole (X : Whole.Idx → EReal) (y : Whole.Idx) : EReal :=
  overOf (fun l => X (ix4 (y 0) 0 (y 2) l)) (y 3)
    * if (y 1).val = 0 then Turn.cosR (X (ix4 (y 0) 1 (y 2) (y 3))) else Turn.sinR (X (ix4 (y 0) 1 (y 2) (y 3)))

/-- What the precondition gives of one row: its 64th smallest power is a float number and every phase is finite. -/
def Good (mag ph : Fin 4096 → EReal) : Prop :=
  (∃ w : BitVec 32, w.toNat < 2139095040 ∧ Noise.last (fun l => mag l * mag l) = Words.val w) ∧ ∀ l, ∃ x : ℝ, ph l = (x : EReal)

variable {R : ℕ} [h : Fits R]

theorem square_nonneg (v : EReal) : 0 ≤ v * v := by
  induction v using EReal.rec with
  | bot => simp
  | top => simp
  | coe x => rw [← EReal.coe_mul]; exact EReal.coe_nonneg.2 (mul_self_nonneg x)

theorem over_row (mag : FVec Ideal (Sq R 4096) .f32) (r : Fin R)
    (hg : ∃ w : BitVec 32, w.toNat < 2139095040 ∧ Noise.last (fun l => mag (ix2 r l) * mag (ix2 r l)) = Words.val w) (l : Fin 4096) :
    over mag (ix2 r l) = overOf (fun k => mag (ix2 r k)) l := by
  obtain ⟨w, hw, hp⟩ := hg
  have e : over mag (ix2 r l) = max (mag (ix2 r l) - broadcastTo (Sq R 4096) (Spec.noise (mulf mag mag)) h.up (ix2 r l)) (Ideal.ofBits .f32 0x00000000#32) := rfl
  rw [e, up_apply, Noise.noise_row (mulf mag mag) r (fun l => square_nonneg _) w hw hp]
  rfl

/-- A row of a block's real part. -/
theorem re_row (mag ph : FVec Ideal (Sq R 4096) .f32) (r : Fin R) (hg : Good (fun l => mag (ix2 r l)) (fun l => ph (ix2 r l))) (l : Fin 4096) :
    re mag ph (ix2 r l) = overOf (fun k => mag (ix2 r k)) l * Turn.cosR (ph (ix2 r l)) := by
  obtain ⟨x, hx⟩ := hg.2 l
  have e : re mag ph (ix2 r l) = over mag (ix2 r l) * cosV ph (ix2 r l) := rfl
  rw [e, over_row mag r hg.1, Turn.cosV_apply ph (ix2 r l) x hx]

/-- A row of a block's imaginary part. -/
theorem im_row (mag ph : FVec Ideal (Sq R 4096) .f32) (r : Fin R) (hg : Good (fun l => mag (ix2 r l)) (fun l => ph (ix2 r l))) (l : Fin 4096) :
    im mag ph (ix2 r l) = overOf (fun k => mag (ix2 r k)) l * Turn.sinR (ph (ix2 r l)) := by
  obtain ⟨x, hx⟩ := hg.2 l
  have e : im mag ph (ix2 r l) = over mag (ix2 r l) * sinV ph (ix2 r l) := rfl
  rw [e, over_row mag r hg.1, Turn.sinV_apply ph (ix2 r l) x hx]

/-- A plane of the argument: the slice of one of the two members of axis 1. -/
theorem plane_at {α : Type} (X : Whole.Idx → α) (p : Fin 2) (off : Fin 4 → ℕ) (hoff : off = ![0, p.val, 0, 0])
    (hs : Whole.Slices off (⟨4, ![16, 1, 513, 4096]⟩ : Shape)) (hc : (⟨4, ![16, 1, 513, 4096]⟩ : Shape).ShapeCasts Plane)
    (b : Fin 16) (r : Fin 513) (l : Fin 4096) :
    shapeCast Plane (extractStridedSlice (⟨4, ![16, 1, 513, 4096]⟩ : Shape) off X hs) hc (ix3 b r l) = X (ix4 b p r l) := by
  subst hoff
  refine (shapeCast_apply _ hc (ix3 b r l) (ix4 b (0 : Fin 1) r l) ?_).trans (congrArg X ?_)
  · rw [Shape.rowMajor_val_four, Shape.rowMajor_val_three]
    show ((b.val * 1 + 0) * 513 + r.val) * 4096 + l.val = (b.val * 513 + r.val) * 4096 + l.val
    omega
  · funext a; apply Fin.ext; fin_cases a <;> simp [ix4]

/-- The greatest 64 of each row of a plane, taken in order. -/
theorem topK_at (x : Plane.Idx → EReal) (fits : Plane.Slices (fun _ => 0) Top64) (b : Fin 16) (r : Fin 513) (i : Fin 64) :
    (Host.topK Top64 2 (FloatOps.cmpfTotal (F := Ideal) (φ := .f32) .gt) x fits).1 (ix3 b r i)
      = x (ix3 b r (sortedFrom (fun k k' => Ideal.cmpTotal .gt (x (ix3 b r k)) (x (ix3 b r k')) == 1#1) (Noise.among i))) := by
  have al : ∀ (j : Plane.Idx) (k : Fin 4096), j 0 = b → j 1 = r → j.along (2 : Fin 3) k = ix3 b r k := fun j k h0 h1 => by
    funext a; fin_cases a
    · exact h0
    · exact h1
    · rfl
  have sl : ∀ f : Plane.Idx → EReal, extractStridedSlice Top64 (fun _ => 0) f fits (ix3 b r i) = f (ix3 b r (Noise.among i)) := fun f => by
    refine congrArg f ?_
    funext a; apply Fin.ext; fin_cases a <;> simp [ix3, Noise.among]
  unfold Host.topK
  dsimp only
  refine (sl _).trans ?_
  unfold Host.sort2
  rw [dif_pos (by decide)]
  have key : ∀ f : Fin 4096 → Plane.Idx, (∀ k, f k = ix3 b r k) →
      x (f (sortedFrom (fun k k' => Ideal.cmpTotal .gt (x (f k)) (x (f k')) == 1#1) (Noise.among i)))
        = x (ix3 b r (sortedFrom (fun k k' => Ideal.cmpTotal .gt (x (ix3 b r k)) (x (ix3 b r k')) == 1#1) (Noise.among i))) := fun f hf => by
    obtain rfl : f = fun k => ix3 b r k := funext hf
    rfl
  exact key (fun k => (ix3 b r (Noise.among i)).along (2 : Fin 3) k) fun k => al _ k rfl rfl

end Cert.Proof.Rows

end
-- ==== Proof.Finish.lean ====
/-
  What the kernel's result array holds at the end, element by element: the array of Rows.
-/
module

public import proofs.«01_k».proof.Proof.Run
public import proofs.«01_k».proof.Proof.Rows
public import Idealize.ShloMosaic.Lib.Pipeline.ValueKit.Geometry

@[expose] public section

noncomputable section

namespace Cert.Proof.Run

open Cert.Kernel Cert.Kernel.Gen
open Idealize.ShloMosaic Idealize.ShloMosaic.ValueIdx Idealize.ShloMosaic.TcCoe
open Idealize.ShloMosaic.Pipeline (RDat)
open Cert.Proof

/-! ## The second region's blocks -/

theorem index0 : ∀ t : Fin grid1.N, win1_0.index t = ![t.val, 0, 64, 0] := by decide +kernel
theorem index2 : ∀ t : Fin grid1.N, win1_2.index t = ![t.val, 0, 64, 0] := by decide +kernel
theorem moved0 : ∀ t : Fin grid1.N, win1_0.xsize (grid1.coords t) = ![1, 2, 1, 4096] := by decide +kernel
theorem moved2 : ∀ t : Fin grid1.N, win1_2.xsize (grid1.coords t) = ![1, 2, 1, 4096] := by decide +kernel

/-- Point `t` writes row 512 of batch entry `t`. -/
theorem mem_blk2 (t : Fin grid1.N) (y : S16x2x513x4096.Idx) : y ∈ (win1_2.blk t).view.set ↔ (y 0).val = t.val ∧ (y 2).val = 512 := by
  have h := win1_2.emb_mem_blk_iff t y rfl
  refine h.trans ?_
  rw [index2, moved2]
  have l0 : (y 0).val < 16 := (y 0).isLt
  have l1 : (y 1).val < 2 := (y 1).isLt
  have l2 : (y 2).val < 513 := (y 2).isLt
  have l3 : (y 3).val < 4096 := (y 3).isLt
  constructor
  · intro h
    have h0 : t.val * 1 ≤ (y 0).val ∧ (y 0).val < t.val * 1 + 1 := h 0
    have h2 : 64 * 8 ≤ (y 2).val ∧ (y 2).val < 64 * 8 + 1 := h 2
    omega
  · rintro ⟨h0, h2⟩ a
    fin_cases a
    · show t.val * 1 ≤ (y 0).val ∧ (y 0).val < t.val * 1 + 1
      omega
    · show 0 * 2 ≤ (y 1).val ∧ (y 1).val < 0 * 2 + 2
      omega
    · show 64 * 8 ≤ (y 2).val ∧ (y 2).val < 64 * 8 + 1
      omega
    · show 0 * 4096 ≤ (y 3).val ∧ (y 3).val < 0 * 4096 + 4096
      omega

theorem emb0_val (t : Fin grid1.N) (j : (win1_0.xblock (grid1.coords t)).Idx) (a : Fin 4) :
    ((win1_0.blk t).view.emb j a).val = win1_0.index t a * S1x2x8x4096.size a + (j a).val := by blk_simp
theorem emb2_val (t : Fin grid1.N) (j : (win1_2.xblock (grid1.coords t)).Idx) (a : Fin 4) :
    ((win1_2.blk t).view.emb j a).val = win1_2.index t a * S1x2x8x4096.size a + (j a).val := by blk_simp

/-- What a write of point `t`'s block leaves at the row it covers. -/
theorem write2 {F : FTy → Type} (t : Fin grid1.N) (G₀ : S16x2x513x4096.Idx → Elt F .f32) (W : S1x2x8x4096.Idx → Elt F .f32)
    (b : Fin 16) (hb : b.val = t.val) (p : Fin 2) (l : Fin 4096) :
    (win1_2.blk t).view.write (Elt F) G₀ (win1_2.cut (grid1.coords t) W) Finset.univ (ix4 b p (512 : Fin 513) l)
      = W (ix4 (0 : Fin 1) p (0 : Fin 8) l) := by
  obtain ⟨j, -, hj⟩ := Finset.mem_map.1 ((mem_blk2 t (ix4 b p (512 : Fin 513) l)).2 ⟨hb, rfl⟩)
  rw [← hj, View.write_emb_of_mem _ _ (Finset.mem_univ j)]
  have e : ∀ a : Fin 4, ((ix4 b p (512 : Fin 513) l : S16x2x513x4096.Idx) a).val = win1_2.index t a * S1x2x8x4096.size a + (j a).val := fun a => by
    rw [← hj]; exact emb2_val t j a
  rw [index2] at e
  have e0 : b.val = t.val * 1 + (j 0).val := e 0
  have e1 : p.val = 0 * 2 + (j 1).val := e 1
  have e2 : 512 = 64 * 8 + (j 2).val := e 2
  have e3 : l.val = 0 * 4096 + (j 3).val := e 3
  refine congrArg W ?_
  funext a; apply Fin.ext; fin_cases a
  · show (j 0).val = 0
    omega
  · show (j 1).val = p.val
    omega
  · show (j 2).val = 0
    omega
  · show (j 3).val = l.val
    omega

/-- What a fetch of point `t`'s block leaves in the staging buffer's first row. -/
theorem fill0 {F : FTy → Type} (t : Fin grid1.N) (A d) (b : Fin 16) (hb : b.val = t.val) (p : Fin 2) (l : Fin 4096) :
    (win1_0.fill (grid1.coords t) d ((win1_0.blk t).view.read (Elt F) A) : S1x2x8x4096.Idx → Elt F .f32) (ix4 (0 : Fin 1) p (0 : Fin 8) l)
      = (A : S16x2x513x4096.Idx → Elt F .f32) (ix4 b p (512 : Fin 513) l) := by
  have hm : ∀ a : Fin 4, ((ix4 (0 : Fin 1) p (0 : Fin 8) l : S1x2x8x4096.Idx) a).val < win1_0.xsize (grid1.coords t) a := by
    rw [moved0]
    intro a; fin_cases a
    · exact Nat.one_pos
    · exact p.isLt
    · exact Nat.one_pos
    · exact l.isLt
  unfold Pipeline.Window.fill
  rw [dif_pos ((win1_0.moved_iff _ _).2 hm)]
  refine congrArg A ?_
  funext a; apply Fin.ext
  refine (emb0_val t _ a).trans ?_
  rw [index0]
  fin_cases a
  · show t.val * 1 + 0 = b.val
    omega
  · show 0 * 2 + p.val = p.val
    omega
  · rfl
  · show 0 * 4096 + l.val = l.val
    omega

/-! ## What the two regions leave, over Ideal -/

variable (m : (ℓ : Loc nD τ sig) → Buf (Elt Ideal) ℓ) (c : Dev nD)

theorem U2_out : (U2 m c main_v1 : S16x2x513x4096.Idx → EReal) = OUT c (XA m c) (VA m c) := by
  have e : U2 m c main_v1 = U1 m c main_v0 := by
    show StableHlo.after hostOps1 (U1 m c) main_v1 = _
    rfl
  exact e.trans (Function.update_self ..)

/-- The argument's rows are good. -/
def AllGood (X : FVec Ideal S16x2x513x4096 .f32) : Prop :=
  ∀ (b : Fin 16) (r : Fin 513), Rows.Good (fun l => X (ix4 b 0 r l)) (fun l => X (ix4 b 1 r l))

/-- The rows below 512. -/
theorem out_row (X V : FVec Ideal S16x2x513x4096 .f32) (hg : AllGood X) (b : Fin 16) (p : Fin 2) (r : Fin 513) (hr : r.val < 512) (l : Fin 4096) :
    (OUT (F := Ideal) c X V : FVec Ideal S16x2x513x4096 .f32) (ix4 b p r l) = Rows.whole X (ix4 b p r l) := by
  have hB : blockOf (ix4 b p r l) = ⟨(b.val * 8 + r.val / 64) % 128, by omega⟩ := rfl
  have hb : batchOf (blockOf (ix4 b p r l)) = b := by
    apply Fin.ext; rw [hB]; show (b.val * 8 + r.val / 64) % 128 / 8 = b.val
    omega
  have hrow : rowOf (blockOf (ix4 b p r l)) (⟨r.val % 64, by omega⟩ : Fin 64) = r := by
    apply Fin.ext; rw [hB]; show (b.val * 8 + r.val / 64) % 128 % 8 * 64 + r.val % 64 = r.val
    omega
  have hw : ∀ (q : Fin 2) (k : Fin 4096), xWords (F := Ideal) c X (blockOf (ix4 b p r l)) (ix3 q (⟨r.val % 64, by omega⟩ : Fin 64) k) = X (ix4 b q r k) := fun q k => by
    show X ((grpOf xM (blockOf (ix4 b p r l))).view.emb (ix3 q (⟨r.val % 64, by omega⟩ : Fin 64) k)) = _
    rw [xGrp_emb, hb, hrow]
  have e : (OUT (F := Ideal) c X V : FVec Ideal S16x2x513x4096 .f32) (ix4 b p r l) = outWords (xWords (F := Ideal) c X (blockOf (ix4 b p r l))) (ix3 p (⟨r.val % 64, by omega⟩ : Fin 64) l) := if_pos hr
  rw [e]
  generalize xWords (F := Ideal) c X (blockOf (ix4 b p r l)) = W at hw
  have hm : (fun k => plane W 0 (ix2 (⟨r.val % 64, by omega⟩ : Fin 64) k)) = fun k => X (ix4 b 0 r k) := funext fun k => hw 0 k
  have hp : (fun k => plane W 1 (ix2 (⟨r.val % 64, by omega⟩ : Fin 64) k)) = fun k => X (ix4 b 1 r k) := funext fun k => hw 1 k
  have hG : Rows.Good (fun k => plane W 0 (ix2 (⟨r.val % 64, by omega⟩ : Fin 64) k)) (fun k => plane W 1 (ix2 (⟨r.val % 64, by omega⟩ : Fin 64) k)) := by
    rw [hm, hp]; exact hg b r
  have hph : plane W 1 (ix2 (⟨r.val % 64, by omega⟩ : Fin 64) l) = X (ix4 b 1 r l) := hw 1 l
  have hre := Rows.re_row (plane W 0) (plane W 1) ⟨r.val % 64, by omega⟩ hG l
  have him := Rows.im_row (plane W 0) (plane W 1) ⟨r.val % 64, by omega⟩ hG l
  rw [hm, hph] at hre him
  have ew : outWords W (ix3 p (⟨r.val % 64, by omega⟩ : Fin 64) l) = if p.val = 0 then Spec.re (R := 64) (plane W 0) (plane W 1) (ix2 (⟨r.val % 64, by omega⟩ : Fin 64) l)
      else Spec.im (R := 64) (plane W 0) (plane W 1) (ix2 (⟨r.val % 64, by omega⟩ : Fin 64) l) := rfl
  rw [ew, hre, him]
  have er : Rows.whole X (ix4 b p r l) = Rows.overOf (fun k => X (ix4 b 0 r k)) l
      * if p.val = 0 then Turn.cosR (X (ix4 b 1 r l)) else Turn.sinR (X (ix4 b 1 r l)) := rfl
  rw [er]
  by_cases h : p.val = 0
  · rw [if_pos h, if_pos h]
  · rw [if_neg h, if_neg h]

/-- Row 512. -/
theorem tail_row (X : FVec Ideal S16x2x513x4096 .f32) (hg : AllGood X) (B : S1x2x8x4096.Idx → Elt Ideal .f32) (b : Fin 16)
    (hB : ∀ (q : Fin 2) (k : Fin 4096), B (ix4 (0 : Fin 1) q (0 : Fin 8) k) = X (ix4 b q (512 : Fin 513) k)) (p : Fin 2) (l : Fin 4096) :
    tailOut B (ix4 (0 : Fin 1) p (0 : Fin 8) l) = Rows.whole X (ix4 b p (512 : Fin 513) l) := by
  have hm : (fun k => tailPlane B 0 (ix2 (0 : Fin 8) k)) = fun k => X (ix4 b 0 512 k) := funext fun k => hB 0 k
  have hp : (fun k => tailPlane B 1 (ix2 (0 : Fin 8) k)) = fun k => X (ix4 b 1 512 k) := funext fun k => hB 1 k
  have hG : Rows.Good (fun k => tailPlane B 0 (ix2 (0 : Fin 8) k)) (fun k => tailPlane B 1 (ix2 (0 : Fin 8) k)) := by
    rw [hm, hp]; exact hg b 512
  have hph : tailPlane B 1 (ix2 (0 : Fin 8) l) = X (ix4 b 1 512 l) := hB 1 l
  have hre := Rows.re_row (tailPlane B 0) (tailPlane B 1) 0 hG l
  have him := Rows.im_row (tailPlane B 0) (tailPlane B 1) 0 hG l
  rw [hm, hph] at hre him
  have ew : tailOut B (ix4 (0 : Fin 1) p (0 : Fin 8) l) = if p.val = 0 then Spec.re (R := 8) (tailPlane B 0) (tailPlane B 1) (ix2 (0 : Fin 8) l)
      else Spec.im (R := 8) (tailPlane B 0) (tailPlane B 1) (ix2 (0 : Fin 8) l) := rfl
  rw [ew, hre, him]
  have er : Rows.whole X (ix4 b p 512 l) = Rows.overOf (fun k => X (ix4 b 0 512 k)) l
      * if p.val = 0 then Turn.cosR (X (ix4 b 1 512 l)) else Turn.sinR (X (ix4 b 1 512 l)) := rfl
  rw [er]
  by_cases h : p.val = 0
  · rw [if_pos h, if_pos h]
  · rw [if_neg h, if_neg h]

/-- What the result array holds before point `n` of the second region. -/
def Upto (n : ℕ) (G : FVec Ideal S16x2x513x4096 .f32) : Prop :=
  ∀ (b : Fin 16) (p : Fin 2) (r : Fin 513) (l : Fin 4096), (r.val < 512 ∨ b.val < n) → G (ix4 b p r l) = Rows.whole (XA m c) (ix4 b p r l)

theorem upto (hg : AllGood (XA m c)) : ∀ n : ℕ, n ≤ 16 → ∀ G, (rdat1 m c).ArrAt (2 : Fin 3) n G → Upto m c n G
  | 0, _, G, hG => by
    obtain rfl : G = A1 m c 2 := hG
    intro b p r l h
    have hr : r.val < 512 := by omega
    exact (congrFun (U2_out m c) (ix4 b p r l)).trans (out_row c (XA m c) (VA m c) hg b p r hr l)
  | n + 1, hn, G, hG => by
    have hs := (rdat1 m c).ArrAt_succ (2 : Fin 3) (⟨n, hn⟩ : Fin grid1.N)
    rw [if_pos (flush1_2 _)] at hs
    have hG' : (rdat1 m c).ArrStep (2 : Fin 3) (⟨n, hn⟩ : Fin grid1.N) ((rdat1 m c).ArrAt (2 : Fin 3) n) G := hs ▸ hG
    obtain ⟨G₀, X, h₀, ⟨Y, -, d, hX⟩, rfl⟩ := hG'
    have ih := upto hg n (by omega) G₀ h₀
    intro b p r l h
    by_cases hb : b.val = n ∧ r.val = 512
    · obtain rfl : r = 512 := Fin.ext hb.2
      refine (write2 (F := Ideal) ⟨n, hn⟩ G₀ X b hb.1 p l).trans ?_
      rw [hX]
      refine tail_row (XA m c) hg _ b (fun q k => ?_) p l
      refine (fill0 (F := Ideal) ⟨n, hn⟩ (A1 m c 0) d b hb.1 q k).trans ?_
      exact congrFun (U2_arg m c) _
    · have hne : (ix4 b p r l : S16x2x513x4096.Idx) ∉ (win1_2.blk ⟨n, hn⟩).view.setOn Finset.univ := fun hm =>
        hb ((mem_blk2 ⟨n, hn⟩ _).1 hm)
      refine (View.write_of_not_mem _ _ _ hne).trans (ih b p r l ?_)
      omega

/-- WHAT THE KERNEL'S RUN LEAVES: the result of Rows. -/
theorem ends_whole (hg : AllGood (XA m c)) (G) (hG : Ends m c G) : G = Rows.whole (XA m c) := by
  funext y
  obtain ⟨b, p, r, l, rfl⟩ : ∃ b p r l, y = ix4 b p r l := ⟨y 0, y 1, y 2, y 3, eq_ix4 y⟩
  exact upto m c hg 16 le_rfl G hG b p r l (.inr b.isLt)

end Cert.Proof.Run

end
-- ==== Proof.Reference.lean ====
/-
  The reference's run read element by element: its result is the array of Rows.
-/
module

public import proofs.«01_k».proof.Proof.Rows
public import proofs.«01_k».proof.Proof.Gen.ReferenceIdeal.Run

@[expose] public section

noncomputable section

namespace Cert.Proof.Reference

open Idealize.ShloMosaic Idealize.ShloMosaic.ValueIdx Idealize.ShloMosaic.StableHlo
open Cert.ReferenceIdeal Cert.ReferenceIdeal.Gen Cert.ReferenceIdeal.Value

/-- A vector of the program's planes. -/
local notation "V" => FVec Ideal S16x513x4096 FTy.f32

/-! ## The noise level -/

/-- The 64 greatest of the negated powers of each row. -/
def greatest (x : V) : FVec Ideal S16x513x64 .f32 :=
  (Host.topK S16x513x64 2 (FloatOps.cmpfTotal (F := Ideal) (φ := .f32) .gt) x sliceFits_S16x513x4096_S16x513x64).1

theorem greatest_apply (x : V) (b : Fin 16) (r : Fin 513) (i : Fin 64) :
    greatest x (ix3 b r i)
      = x (ix3 b r (sortedFrom (fun k k' => Ideal.cmpTotal .gt (x (ix3 b r k)) (x (ix3 b r k')) == 1#1) (Noise.among i))) :=
  Rows.topK_at x sliceFits_S16x513x4096_S16x513x64 b r i

/-- The noise level of each row, as the program computes it. -/
def levelV (m : V) : FVec Ideal S16x513 .f32 :=
  Host.divf (Host.reduceAdd (Host.negf (greatest (Host.negf (mulf m m)))) (constant S_ .f32 0x00000000#32) reducesTo_S16x513x64_S16x513_d2 h_S_)
    (broadcastInDim S16x513 ![] bcast_S_S16x513 (constant S_ .f32 0x42800000#32))

theorem levelV_apply (m : V) (b : Fin 16) (r : Fin 513) :
    levelV m (ix2 b r) = Noise.level fun k => m (ix3 b r k) * m (ix3 b r k) := by
  have e : levelV m (ix2 b r) = Ideal.div (Ideal.hostReduceAdd reducesTo_S16x513x64_S16x513_d2 (Host.negf (greatest (Host.negf (mulf m m))))
      (Ideal.ofBits .f32 0x00000000#32) (ix2 b r)) (Ideal.ofBits .f32 0x42800000#32) := rfl
  have red : S16x513x64.Reduces [2] S16x513 := by decide
  rw [e, Ideal.hostReduceAdd_single reducesTo_S16x513x64_S16x513_d2 red, Ideal.ofBits_zero_f32, zero_add]
  unfold Noise.level
  refine congrArg (Ideal.div · _) (Finset.sum_congr rfl fun i _ => ?_)
  have l : red.lift (ix2 b r) i = ix3 b r i := by
    funext a; apply Fin.ext; fin_cases a <;> rfl
  exact (congrArg (fun j => -(greatest (Host.negf (mulf m m)) j)) l).trans (congrArg Neg.neg (greatest_apply _ b r i))

/-- The magnitude over the noise level, as the program computes it. -/
def overV (m : V) : V :=
  maximumf (subf m (broadcastInDim S16x513x4096 ![0, 1, 2] bcast_S16x513x1_S16x513x4096_0_1_2
      (broadcastInDim S16x513x1 ![0, 1] bcast_S16x513_S16x513x1_0_1 (levelV m))))
    (broadcastInDim S16x513x4096 ![] bcast_S_S16x513x4096 (constant S_ .f32 0x00000000#32))

theorem overV_apply (m : V) (b : Fin 16) (r : Fin 513) (l : Fin 4096) : overV m (ix3 b r l) = Rows.overOf (fun k => m (ix3 b r k)) l := by
  have e : overV m (ix3 b r l) = max (m (ix3 b r l) - broadcastInDim S16x513x4096 ![0, 1, 2] bcast_S16x513x1_S16x513x4096_0_1_2
      (broadcastInDim S16x513x1 ![0, 1] bcast_S16x513_S16x513x1_0_1 (levelV m)) (ix3 b r l)) (Ideal.ofBits .f32 0x00000000#32) := rfl
  rw [e, broadcastInDim_apply _ _ _ (ix3 b r l) (ix3 b r (0 : Fin 1)) (by intro a; fin_cases a <;> rfl),
    broadcastInDim_apply _ _ _ (ix3 b r (0 : Fin 1)) (ix2 b r) (by intro a; fin_cases a <;> rfl), levelV_apply]
  rfl

/-! ## The planes of the argument -/

variable (V0 : Valuation τ sig (Elt Ideal))

theorem mag_apply (b : Fin 16) (r : Fin 513) (l : Fin 4096) :
    res_main_v1 V0 (ix3 b r l) = V0 (Proc.devRef .tc main_arg0) (ix4 b 0 r l) := Rows.plane_at (V0 (Proc.devRef .tc main_arg0)) 0 _ rfl _ _ b r l
theorem ph_apply (b : Fin 16) (r : Fin 513) (l : Fin 4096) :
    res_main_v3 V0 (ix3 b r l) = V0 (Proc.devRef .tc main_arg0) (ix4 b 1 r l) := Rows.plane_at (V0 (Proc.devRef .tc main_arg0)) 1 _ rfl _ _ b r l

/-! ## The phase -/

theorem v16_apply (i : S16x513x4096.Idx) : res_main_v16 V0 i = Turn.quarters (res_main_v3 V0 i) := rfl
theorem v22_apply (i : S16x513x4096.Idx) : res_main_v22 V0 i = Turn.left (res_main_v3 V0 i) := rfl
theorem v44_apply (i : S16x513x4096.Idx) : res_main_v44 V0 i = Turn.cosOf (res_main_v22 V0 i) := rfl
theorem v62_apply (i : S16x513x4096.Idx) : res_main_v62 V0 i = Turn.sinOf (res_main_v22 V0 i) := rfl
theorem v65_apply (i : S16x513x4096.Idx) : res_main_v65 V0 i = Turn.quad (res_main_v3 V0 i) := by
  rfl

/-- One of four vectors by the quarter turn, as the program selects. -/
def choose (n : IVec S16x513x4096 32) (a b c d : V) : V :=
  select (cmpi .eq n (broadcastInDim S16x513x4096 ![] bcast_S_S16x513x4096 (constantI S_ 32 0#32))) a
    (select (cmpi .eq n (broadcastInDim S16x513x4096 ![] bcast_S_S16x513x4096 (constantI S_ 32 1#32))) b
      (select (cmpi .eq n (broadcastInDim S16x513x4096 ![] bcast_S_S16x513x4096 (constantI S_ 32 2#32))) c d))

theorem eq_ite (a b : BitVec 32) (x y : EReal) : (if IntOp.cmpi .eq a b = 1#1 then x else y) = if a = b then x else y := by
  by_cases h : a = b
  · rw [if_pos ((Search.eq_one a b).2 h), if_pos h]
  · rw [if_neg (mt (Search.eq_one a b).1 h), if_neg h]

theorem choose_apply (n : IVec S16x513x4096 32) (a b c d : V) (i : S16x513x4096.Idx) :
    choose n a b c d i = Turn.choose4 (n i) (a i) (b i) (c i) (d i) := by
  have e : choose n a b c d i = if IntOp.cmpi .eq (n i) 0#32 = 1#1 then a i else if IntOp.cmpi .eq (n i) 1#32 = 1#1 then b i
      else if IntOp.cmpi .eq (n i) 2#32 = 1#1 then c i else d i := rfl
  rw [e, eq_ite, eq_ite, eq_ite, Turn.choose4]

theorem neg_apply (a : V) (i : S16x513x4096.Idx) : Host.negf a i = -(a i) := rfl

/-! ## The result -/

/-- The two planes of the result. -/
def cosPlane : V := mulf (overV (res_main_v1 V0)) (choose (res_main_v65 V0) (res_main_v44 V0) (Host.negf (res_main_v62 V0)) (Host.negf (res_main_v44 V0)) (res_main_v62 V0))
def sinPlane : V := mulf (overV (res_main_v1 V0)) (choose (res_main_v65 V0) (res_main_v62 V0) (res_main_v44 V0) (Host.negf (res_main_v62 V0)) (Host.negf (res_main_v44 V0)))

theorem cosPlane_apply (i : S16x513x4096.Idx) : cosPlane V0 i = overV (res_main_v1 V0) i * Turn.cosR (res_main_v3 V0 i) := by
  have e : cosPlane V0 i = overV (res_main_v1 V0) i
      * choose (res_main_v65 V0) (res_main_v44 V0) (Host.negf (res_main_v62 V0)) (Host.negf (res_main_v44 V0)) (res_main_v62 V0) i := rfl
  rw [e, choose_apply, neg_apply, neg_apply, v44_apply, v62_apply, v65_apply, v22_apply, Turn.cosR]
theorem sinPlane_apply (i : S16x513x4096.Idx) : sinPlane V0 i = overV (res_main_v1 V0) i * Turn.sinR (res_main_v3 V0 i) := by
  have e : sinPlane V0 i = overV (res_main_v1 V0) i
      * choose (res_main_v65 V0) (res_main_v62 V0) (res_main_v44 V0) (Host.negf (res_main_v62 V0)) (Host.negf (res_main_v44 V0)) i := rfl
  rw [e, choose_apply, neg_apply, neg_apply, v44_apply, v62_apply, v65_apply, v22_apply, Turn.sinR]

/-- The two planes put together. -/
def both (a b : V) : FVec Ideal S16x2x513x4096 .f32 :=
  concatenate S16x2x513x4096 1 [⟨S16x1x513x4096, broadcastInDim S16x1x513x4096 ![0, 2, 3] bcast_S16x513x4096_S16x1x513x4096_0_2_3 a⟩,
    ⟨S16x1x513x4096, broadcastInDim S16x1x513x4096 ![0, 2, 3] bcast_S16x513x4096_S16x1x513x4096_0_2_3 b⟩]
    concatenates_S16x1x513x4096_S16x1x513x4096_S16x2x513x4096_d1

theorem both_apply (a b : V) (y0 : Fin 16) (p : Fin 2) (r : Fin 513) (l : Fin 4096) :
    both a b (ix4 y0 p r l) = if p.val = 0 then a (ix3 y0 r l) else b (ix3 y0 r l) := by
  have pl : ∀ f : V, broadcastInDim S16x1x513x4096 ![0, 2, 3] bcast_S16x513x4096_S16x1x513x4096_0_2_3 f (ix4 y0 (0 : Fin 1) r l) = f (ix3 y0 r l) :=
    fun f => broadcastInDim_apply _ _ _ _ (ix3 y0 r l) (by intro a; fin_cases a <;> rfl)
  unfold both
  by_cases hp : p.val = 0
  · rw [if_pos hp, ← pl a]
    refine concatenate_pair_apply_left (t := S16x2x513x4096) (s₁ := S16x1x513x4096) (s₂ := S16x1x513x4096) (1 : Fin 4) _ _ _ (ix4 y0 p r l) rfl (ix4 y0 (0 : Fin 1) r l) fun c => ?_
    fin_cases c
    · rfl
    · exact hp.symm
    · rfl
    · rfl
  · rw [if_neg hp, ← pl b]
    refine concatenate_pair_apply_right (t := S16x2x513x4096) (s₁ := S16x1x513x4096) (s₂ := S16x1x513x4096) (1 : Fin 4) _ _ _ (ix4 y0 p r l) rfl rfl (ix4 y0 (0 : Fin 1) r l) (fun c hc => ?_) ?_
    · fin_cases c
      · rfl
      · exact absurd rfl hc
      · rfl
      · rfl
    · show 0 + 1 = p.val
      omega

theorem result : both (cosPlane V0) (sinPlane V0) = Rows.whole (V0 (Proc.devRef .tc main_arg0)) := by
  funext y
  obtain ⟨b, p, r, l, rfl⟩ : ∃ b p r l, y = ix4 b p r l := ⟨y 0, y 1, y 2, y 3, eq_ix4 y⟩
  rw [both_apply]
  unfold Rows.whole
  show _ = Rows.overOf (fun k => V0 (Proc.devRef .tc main_arg0) (ix4 b 0 r k)) l
    * if p.val = 0 then Turn.cosR (V0 (Proc.devRef .tc main_arg0) (ix4 b 1 r l)) else Turn.sinR (V0 (Proc.devRef .tc main_arg0) (ix4 b 1 r l))
  have o : overV (res_main_v1 V0) (ix3 b r l) = Rows.overOf (fun k => V0 (Proc.devRef .tc main_arg0) (ix4 b 0 r k)) l := by
    rw [overV_apply]
    exact congrArg (fun f => Rows.overOf f l) (funext fun k => mag_apply V0 b r k)
  by_cases hp : p.val = 0
  · rw [if_pos hp, if_pos hp, cosPlane_apply, o, ph_apply]
  · rw [if_neg hp, if_neg hp, sinPlane_apply, o, ph_apply]

/-- THE REFERENCE'S RUN: it ends with the result of Rows and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v92) = Rows.whole (m ((c.tc : Thread nD τ).loc main_arg0))
        ∧ r.2.mem ((c.tc : Thread nD τ).loc main_arg0) = m ((c.tc : Thread nD τ).loc main_arg0) :=
  (θ_run defs _ _).mono (fun _ h c => ⟨(h c).1.trans (result (launchContents m c)), (h c).2⟩) (Value.run (F := Ideal) m ρ)

end Cert.Proof.Reference

end
-- ==== Proof.Floats.lean ====
/-
  The precondition read back: in each row it finds the power of two below the 64th smallest power, asks that the power be a whole
  number of steps of it, and so says that some word denotes the power; and it says that every phase is finite.
-/
module

public import proofs.«01_k».proof.Pre_float_level
public import proofs.«01_k».proof.Proof.Rows
public import Idealize.ShloMosaic.Lib.Affine
public import Idealize.ShloMosaic.Lib.ReduceAll

@[expose] public section

noncomputable section

namespace Cert.Proof.Floats

open Idealize.ShloMosaic Idealize.ShloMosaic.ValueIdx

/-- The side conditions of the precondition's operations. -/
theorem facts : Cert.Pre_float_level.Facts where
  slices_S16x2x513x4096_S16x1x513x4096_0_0_0_0 := by decide
  shapeCasts_S16x1x513x4096_S16x513x4096 := by decide
  sliceFits_S16x513x4096_S16x513x64 := by decide
  slices_S16x513x64_S16x513x1_0_0_63 := by decide
  shapeCasts_S16x513x1_S16x513 := by decide
  bcast_S_S16x513 := by decide
  reducesTo_S16x513_S_d0_1 := by decide
  h_S_ := by decide
  slices_S16x2x513x4096_S16x1x513x4096_0_1_0_0 := by decide
  bcast_S_S16x513x4096 := by decide
  reducesTo_S16x513x4096_S_d0_1_2 := by decide

/-! ## One power -/

/-- One step of the search for the power of two: taken where it stays at most the power. -/
def take (p L : EReal) (c : BitVec 32) : EReal :=
  if Ideal.cmp .ole (L * Ideal.ofBits .f32 c) p = 1#1 then L * Ideal.ofBits .f32 c else L

/-- The power of two below a power, or 2**-126. -/
def lead (p : EReal) : EReal :=
  take p (take p (take p (take p (take p (take p (take p (take p (take p (Ideal.ofBits .f32 0x00800000#32) 0x5F800000#32) 0x5F800000#32)
    0x5F800000#32) 0x4F800000#32) 0x47800000#32) 0x43800000#32) 0x41800000#32) 0x40800000#32) 0x40000000#32

/-- The steps in a power. -/
def steps (p : EReal) : EReal := Ideal.div p (lead p) * Ideal.ofBits .f32 0x4B000000#32

/-- `L` is a power of two at most `P`, or the least one, and `P` is below `L` times `2 ^ n`. -/
def Near (P : ℝ) (L : EReal) (n : ℕ) : Prop :=
  ∃ E : ℕ, L = ((2 ^ E / 2 ^ 126 : ℝ) : EReal) ∧ P < 2 ^ (E + n) / 2 ^ 126 ∧ (E = 0 ∨ (2 ^ E / 2 ^ 126 : ℝ) ≤ P)

theorem near_take (P : ℝ) (L : EReal) (n k : ℕ) (c : BitVec 32) (hc : Ideal.ofBits .f32 c = ((2 ^ k : ℝ) : EReal)) (hk : k + k ≤ n)
    (H : Near P L n) : Near P (take (P : EReal) L c) (n - k) := by
  obtain ⟨E, rfl, hP, hE⟩ := H
  have m : ((2 ^ E / 2 ^ 126 : ℝ) : EReal) * Ideal.ofBits .f32 c = ((2 ^ (E + k) / 2 ^ 126 : ℝ) : EReal) := by
    rw [hc, ← EReal.coe_mul, pow_add]; congr 1; ring
  have ec : Ideal.cmp .ole (((2 ^ E / 2 ^ 126 : ℝ) : EReal) * Ideal.ofBits .f32 c) (P : EReal) = 1#1 ↔ (2 ^ (E + k) / 2 ^ 126 : ℝ) ≤ P := by
    rw [m]
    show BitVec.ofBool (decide (((2 ^ (E + k) / 2 ^ 126 : ℝ) : EReal) ≤ (P : EReal))) = 1#1 ↔ _
    rw [Search.ofBool_one, decide_eq_true_eq, EReal.coe_le_coe_iff]
  unfold take
  by_cases h : (2 ^ (E + k) / 2 ^ 126 : ℝ) ≤ P
  · rw [if_pos (ec.2 h), m]
    exact ⟨E + k, rfl, by rw [show E + k + (n - k) = E + n by omega]; exact hP, .inr h⟩
  · rw [if_neg (mt ec.1 h)]
    refine ⟨E, rfl, lt_of_lt_of_le (not_le.1 h) ?_, hE⟩
    exact div_le_div_of_nonneg_right (pow_le_pow_right₀ (by norm_num) (by omega)) (by positivity)

theorem of_real {b : BitVec 32} {x y : ℝ} (h : Ideal.ofBits .f32 b = (x : EReal)) (e : x = y) : Ideal.ofBits .f32 b = (y : EReal) :=
  h.trans (congrArg _ e)

theorem c0 : Ideal.ofBits .f32 0x00800000#32 = ((2 ^ 0 / 2 ^ 126 : ℝ) : EReal) := by
  simp [Ideal.ofBits, Ideal.ieee, -EReal.coe_mul]; norm_num
theorem c64 : Ideal.ofBits .f32 0x5F800000#32 = ((2 ^ 64 : ℝ) : EReal) :=
  of_real (x := 18446744073709551616) (by simp [Ideal.ofBits, Ideal.ieee, -EReal.coe_mul]; norm_num) (by norm_num)
theorem c32 : Ideal.ofBits .f32 0x4F800000#32 = ((2 ^ 32 : ℝ) : EReal) :=
  of_real (x := 4294967296) (by simp [Ideal.ofBits, Ideal.ieee, -EReal.coe_mul]; norm_num) (by norm_num)
theorem c16 : Ideal.ofBits .f32 0x47800000#32 = ((2 ^ 16 : ℝ) : EReal) :=
  of_real (x := 65536) (by simp [Ideal.ofBits, Ideal.ieee, -EReal.coe_mul]; norm_num) (by norm_num)
theorem c8 : Ideal.ofBits .f32 0x43800000#32 = ((2 ^ 8 : ℝ) : EReal) :=
  of_real (x := 256) (by simp [Ideal.ofBits, Ideal.ieee, -EReal.coe_mul]; norm_num) (by norm_num)
theorem c4 : Ideal.ofBits .f32 0x41800000#32 = ((2 ^ 4 : ℝ) : EReal) :=
  of_real (x := 16) (by simp [Ideal.ofBits, Ideal.ieee, -EReal.coe_mul]; norm_num) (by norm_num)
theorem c2 : Ideal.ofBits .f32 0x40800000#32 = ((2 ^ 2 : ℝ) : EReal) :=
  of_real (x := 4) (by simp [Ideal.ofBits, Ideal.ieee, -EReal.coe_mul]; norm_num) (by norm_num)
theorem c1 : Ideal.ofBits .f32 0x40000000#32 = ((2 ^ 1 : ℝ) : EReal) :=
  of_real (x := 2) (by simp [Ideal.ofBits, Ideal.ieee, -EReal.coe_mul]; norm_num) (by norm_num)
theorem c23 : Ideal.ofBits .f32 0x4B000000#32 = ((2 ^ 23 : ℝ) : EReal) :=
  of_real (x := 8388608) (by simp [Ideal.ofBits, Ideal.ieee, -EReal.coe_mul]) (by norm_num)
theorem cinv64 : Ideal.ofBits .f32 0x1F800000#32 = ((1 / 2 ^ 64 : ℝ) : EReal) := by
  simp [Ideal.ofBits, Ideal.ieee, -EReal.coe_mul]; norm_num

theorem near_lead (P : ℝ) (hP : P < 2 ^ 128) : Near P (lead P) 1 := by
  have h0 : Near P (Ideal.ofBits .f32 0x00800000#32) 256 := ⟨0, c0, by refine hP.trans_le ?_; norm_num, .inl rfl⟩
  exact near_take P _ 2 1 _ c1 (by norm_num) (near_take P _ 4 2 _ c2 (by norm_num) (near_take P _ 8 4 _ c4 (by norm_num)
    (near_take P _ 16 8 _ c8 (by norm_num) (near_take P _ 32 16 _ c16 (by norm_num) (near_take P _ 64 32 _ c32 (by norm_num)
    (near_take P _ 128 64 _ c64 (by norm_num) (near_take P _ 192 64 _ c64 (by norm_num) (near_take P _ 256 64 _ c64 (by norm_num) h0))))))))

/-- The number that a word denotes, from its exponent and the steps. -/
theorem val_of (E s : ℕ) (hs : s < 2 ^ 24) (hE : E = 0 ∨ (2 ^ 23 ≤ s ∧ E ≤ 253)) :
    (BitVec.ofNat 32 (E * 2 ^ 23 + s)).toNat < 2139095040
      ∧ Words.val (BitVec.ofNat 32 (E * 2 ^ 23 + s)) = ((s * (2 ^ E / 2 ^ 149) : ℝ) : EReal) := by
  have e : (BitVec.ofNat 32 (E * 2 ^ 23 + s)).toNat = E * 2 ^ 23 + s := by
    rw [BitVec.toNat_ofNat, Nat.mod_eq_of_lt (by omega)]
  refine ⟨by rw [e]; omega, ?_⟩
  have ex : ((BitVec.ofNat 32 (E * 2 ^ 23 + s)).extractLsb' 23 8).toNat = (E * 2 ^ 23 + s) / 2 ^ 23 % 2 ^ 8 := by
    exact (TotalOrder.expo_eq 8 23 _).trans (by rw [e])
  have fr : ((BitVec.ofNat 32 (E * 2 ^ 23 + s)).extractLsb' 0 23).toNat = (E * 2 ^ 23 + s) % 2 ^ 23 := by
    exact (TotalOrder.frac_eq 23 _).trans (by rw [e])
  have ng : ((BitVec.ofNat 32 (E * 2 ^ 23 + s)).extractLsb' 31 1 == 1#1) = false := by
    have z : ((BitVec.ofNat 32 (E * 2 ^ 23 + s)).extractLsb' 31 1).toNat = 0 := by
      rw [BitVec.extractLsb'_toNat, e, Nat.shiftRight_eq_div_pow]; omega
    rw [BitVec.eq_of_toNat_eq (z.trans (by rfl : (0 : ℕ) = (0#1).toNat))]; rfl
  show Ideal.ieee 8 23 _ = _
  unfold Ideal.ieee
  simp only [ex, fr, show 8 + 23 = 31 from rfl, ng]
  rw [if_neg (by omega)]
  by_cases hn : s < 2 ^ 23
  · have hE0 : E = 0 := by omega
    subst hE0
    rw [if_pos (by omega), show (0 * 2 ^ 23 + s) % 2 ^ 23 = s by omega]
    norm_num
  · rw [if_neg (by omega), show 2 ^ 23 + (E * 2 ^ 23 + s) % 2 ^ 23 = s by omega, show (E * 2 ^ 23 + s) / 2 ^ 23 % 2 ^ 8 = E + 1 by omega]
    congr 1
    rw [show (((E + 1 : ℕ) : ℤ) - (2 ^ (8 - 1) - 1) - (23 : ℕ)) = (E : ℤ) - 149 by push_cast; norm_num; ring, zpow_sub₀ (by norm_num), zpow_natCast]
    norm_num

/-- A power that the precondition admits is denoted by a word. -/
theorem word_of (v : EReal) (h1 : Ideal.cmp .oeq (steps (v * v)) (Ideal.liftRound Int.floor (steps (v * v))) = 1#1)
    (h2 : Ideal.cmp .olt (v * v * Ideal.ofBits .f32 0x1F800000#32) (Ideal.ofBits .f32 0x5F800000#32) = 1#1) :
    ∃ w : BitVec 32, w.toNat < 2139095040 ∧ v * v = Words.val w := by
  have h2' : v * v * Ideal.ofBits .f32 0x1F800000#32 < Ideal.ofBits .f32 0x5F800000#32 := of_decide_eq_true ((Search.ofBool_one _).1 h2)
  have h1' : steps (v * v) = Ideal.liftRound Int.floor (steps (v * v)) := of_decide_eq_true ((Search.ofBool_one _).1 h1)
  clear h1 h2
  rw [cinv64, c64] at h2'
  have inf : ¬ ((⊤ : EReal) * ((1 / 2 ^ 64 : ℝ) : EReal) < ((2 ^ 64 : ℝ) : EReal)) := by
    rw [EReal.top_mul_coe_of_pos (by positivity)]; exact not_lt.2 le_top
  induction v using EReal.rec with
  | bot => exact absurd (by simpa using h2') inf
  | top => exact absurd (by simpa using h2') inf
  | coe x =>
    rw [← EReal.coe_mul] at h1' h2' ⊢
    rw [← EReal.coe_mul, EReal.coe_lt_coe_iff] at h2'
    have P0 : 0 ≤ x * x := mul_self_nonneg x
    generalize x * x = P at *
    have P1 : P < 2 ^ 128 := by
      have : P * (1 / 2 ^ 64) * 2 ^ 64 < 2 ^ 64 * 2 ^ 64 := mul_lt_mul_of_pos_right h2' (by positivity)
      have e : P * (1 / 2 ^ 64) * 2 ^ 64 = P := by field_simp
      rw [e] at this
      exact this.trans_le (by norm_num)
    obtain ⟨E, eL, hlt, hE⟩ := near_lead P P1
    have Lp : (0 : ℝ) < 2 ^ E / 2 ^ 126 := by positivity
    have es : steps (P : EReal) = ((P * (1 / (2 ^ E / 2 ^ 126)) * 2 ^ 23 : ℝ) : EReal) := by
      unfold steps
      rw [eL, Ideal.div_coe Lp.ne', c23, ← EReal.coe_mul, ← EReal.coe_mul]
    rw [es] at h1'
    have h3 : P * (1 / (2 ^ E / 2 ^ 126)) * 2 ^ 23 = ((⌊P * (1 / (2 ^ E / 2 ^ 126)) * 2 ^ 23⌋ : ℤ) : ℝ) := EReal.coe_eq_coe_iff.1 h1'
    have S0 : 0 ≤ P * (1 / (2 ^ E / 2 ^ 126)) * 2 ^ 23 := by positivity
    obtain ⟨s, hs⟩ := Int.eq_ofNat_of_zero_le (Int.floor_nonneg.2 S0)
    rw [hs, Int.cast_natCast] at h3
    have eP : P = s * (2 ^ E / 2 ^ 149) := by
      rw [← h3]; field_simp
    have lt24 : s < 2 ^ 24 := by
      have : (s : ℝ) < 2 ^ 24 := by
        have a : (s : ℝ) * (2 ^ E / 2 ^ 149) < 2 ^ 24 * (2 ^ E / 2 ^ 149) := by
          rw [← eP]; refine hlt.trans_eq ?_; rw [pow_succ]; field_simp
        exact lt_of_mul_lt_mul_right a (by positivity)
      exact_mod_cast this
    have hE' : E = 0 ∨ (2 ^ 23 ≤ s ∧ E ≤ 253) := by
      rcases hE with h | h
      · exact .inl h
      · refine .inr ⟨?_, ?_⟩
        · have : (2 ^ 23 : ℝ) ≤ s := by
            have a : (2 ^ 23 : ℝ) * (2 ^ E / 2 ^ 149) ≤ s * (2 ^ E / 2 ^ 149) := by
              rw [← eP]; refine le_of_eq_of_le ?_ h; field_simp
            exact le_of_mul_le_mul_right a (by positivity)
          exact_mod_cast this
        · have a : (2 ^ E : ℝ) < 2 ^ 254 := by
            have b := h.trans_lt P1
            rw [div_lt_iff₀ (by positivity)] at b
            exact b.trans_le (by norm_num)
          have := (pow_lt_pow_iff_right₀ (by norm_num : (1 : ℝ) < 2)).1 a
          omega
    obtain ⟨hw, hv⟩ := val_of E s lt24 hE'
    exact ⟨_, hw, by rw [hv, eP]⟩

/-- A phase of finite size is a real number. -/
theorem finite_of (v : EReal) (hv : Ideal.cmp .olt (max v (-v)) (Ideal.ofBits .f32 0x7F800000#32) = 1#1) : ∃ x : ℝ, v = (x : EReal) := by
  have h' : max v (-v) < Ideal.ofBits .f32 0x7F800000#32 := of_decide_eq_true ((Search.ofBool_one _).1 hv)
  have lt : max v (-v) < ⊤ := lt_of_lt_of_le h' le_top
  induction v using EReal.rec with
  | bot => simp at lt
  | top => simp at lt
  | coe x => exact ⟨x, rfl⟩

/-! ## The precondition -/

attribute [local instance] facts

open Cert.Pre_float_level Cert.Pre_float_level.Facts

/-- One number for every row. -/
def flat (c : BitVec 32) : FVec Ideal S16x513 .f32 := broadcastInDim S16x513 ![] bcast_S_S16x513 (constant S_ .f32 c)

/-- One step of the search, in every row. -/
def takeV (p L : FVec Ideal S16x513 .f32) (c : BitVec 32) : FVec Ideal S16x513 .f32 :=
  select (cmpf .ole (mulf L (flat c)) p) (mulf L (flat c)) L

theorem takeV_apply (p L : FVec Ideal S16x513 .f32) (c : BitVec 32) (i : S16x513.Idx) : takeV p L c i = take (p i) (L i) c := rfl

def leadV (p : FVec Ideal S16x513 .f32) : FVec Ideal S16x513 .f32 :=
  takeV p (takeV p (takeV p (takeV p (takeV p (takeV p (takeV p (takeV p (takeV p (flat 0x00800000#32) 0x5F800000#32) 0x5F800000#32)
    0x5F800000#32) 0x4F800000#32) 0x47800000#32) 0x43800000#32) 0x41800000#32) 0x40800000#32) 0x40000000#32

def quotV (p L : FVec Ideal S16x513 .f32) : FVec Ideal S16x513 .f32 := mulf (Host.divf p L) (flat 0x4B000000#32)

theorem quotV_apply (p L : FVec Ideal S16x513 .f32) (i : S16x513.Idx) :
    quotV p L i = Ideal.div (p i) (L i) * Ideal.ofBits .f32 0x4B000000#32 := rfl

theorem leadV_apply (p : FVec Ideal S16x513 .f32) (i : S16x513.Idx) : leadV p i = lead (p i) := by
  have e0 : flat 0x00800000#32 i = Ideal.ofBits .f32 0x00800000#32 := rfl
  unfold leadV lead
  simp only [takeV_apply, e0]

theorem stepsV_apply (p : FVec Ideal S16x513 .f32) (i : S16x513.Idx) : quotV p (leadV p) i = steps (p i) := by
  rw [quotV_apply, leadV_apply, steps]

/-- The condition on one power. -/
theorem power_at (S v : FVec Ideal S16x513 .f32) (i : S16x513.Idx)
    (h : andi (cmpf .oeq S (Host.floor S)) (cmpf .olt (mulf v (flat 0x1F800000#32)) (flat 0x5F800000#32)) i = 1#1) :
    Ideal.cmp .oeq (S i) (Ideal.liftRound Int.floor (S i)) = 1#1
      ∧ Ideal.cmp .olt (v i * Ideal.ofBits .f32 0x1F800000#32) (Ideal.ofBits .f32 0x5F800000#32) = 1#1 := IntOp.andi_eq_one.1 h

/-- One number at every index. -/
def flatP (c : BitVec 32) : FVec Ideal S16x513x4096 .f32 := broadcastInDim S16x513x4096 ![] bcast_S_S16x513x4096 (constant S_ .f32 c)

/-- The condition on one phase. -/
theorem phase_at (v : FVec Ideal S16x513x4096 .f32) (i : S16x513x4096.Idx) (h : cmpf .olt (Host.absf v) (flatP 0x7F800000#32) i = 1#1) :
    Ideal.cmp .olt (max (v i) (-(v i))) (Ideal.ofBits .f32 0x7F800000#32) = 1#1 := h

/-- The magnitudes and the phases. -/
def magV (X : FVec Ideal S16x2x513x4096 .f32) : FVec Ideal S16x513x4096 .f32 :=
  shapeCast S16x513x4096 (extractStridedSlice S16x1x513x4096 ![0, 0, 0, 0] X slices_S16x2x513x4096_S16x1x513x4096_0_0_0_0)
    shapeCasts_S16x1x513x4096_S16x513x4096
def phV (X : FVec Ideal S16x2x513x4096 .f32) : FVec Ideal S16x513x4096 .f32 :=
  shapeCast S16x513x4096 (extractStridedSlice S16x1x513x4096 ![0, 1, 0, 0] X slices_S16x2x513x4096_S16x1x513x4096_0_1_0_0)
    shapeCasts_S16x1x513x4096_S16x513x4096

/-- The 64th smallest power of each row. -/
def levelV (m : FVec Ideal S16x513x4096 .f32) : FVec Ideal S16x513 .f32 :=
  Host.negf (shapeCast S16x513 (extractStridedSlice S16x513x1 ![0, 0, 63]
    ((Host.topK S16x513x64 2 (FloatOps.cmpfTotal (F := Ideal) (φ := .f32) .gt) (Host.negf (mulf m m)) sliceFits_S16x513x4096_S16x513x64).1)
    slices_S16x513x64_S16x513x1_0_0_63) shapeCasts_S16x513x1_S16x513)

theorem pick_last (x : FVec Ideal S16x513x64 .f32) (b : Fin 16) (r : Fin 513) :
    shapeCast S16x513 (extractStridedSlice S16x513x1 ![0, 0, 63] x slices_S16x513x64_S16x513x1_0_0_63) shapeCasts_S16x513x1_S16x513 (ix2 b r)
      = x (ix3 b r 63) := by
  refine (shapeCast_apply _ _ (ix2 b r) (ix3 b r (0 : Fin 1)) ?_).trans (congrArg x ?_)
  · rw [Shape.rowMajor_val_three, Shape.rowMajor_val_two]
    show (b.val * 513 + r.val) * 1 + 0 = b.val * 513 + r.val
    omega
  · funext a; apply Fin.ext; fin_cases a <;> simp [ix3]

theorem levelV_apply (m : FVec Ideal S16x513x4096 .f32) (b : Fin 16) (r : Fin 513) :
    levelV m (ix2 b r) = Noise.last fun k => m (ix3 b r k) * m (ix3 b r k) := by
  have e := (pick_last _ b r).trans (Rows.topK_at (Host.negf (mulf m m)) sliceFits_S16x513x4096_S16x513x64 b r 63)
  exact (congrArg Neg.neg e).trans (neg_neg (m (ix3 b r _) * m (ix3 b r _)))

/-- The condition on the 64th smallest power of each row. -/
def rowsV (p : FVec Ideal S16x513 .f32) : IVec S16x513 1 :=
  andi (cmpf .oeq (quotV p (leadV p)) (Host.floor (quotV p (leadV p)))) (cmpf .olt (mulf p (flat 0x1F800000#32)) (flat 0x5F800000#32))

theorem fn_eq (X : FVec Ideal S16x2x513x4096 .f32) : fn (F := Ideal) X
    = andi (Host.reduce IntOp.andi (rowsV (levelV (magV X))) (constantI S_ 1 1#1) reducesTo_S16x513_S_d0_1 h_S_)
      (Host.reduce IntOp.andi (cmpf .olt (Host.absf (phV X)) (flatP 0x7F800000#32)) (constantI S_ 1 1#1) reducesTo_S16x513x4096_S_d0_1_2 h_S_) := rfl

/-- What the precondition gives of every row. -/
theorem good (X : FVec Ideal S16x2x513x4096 .f32) (hX : fn (F := Ideal) X = fun _ => 1#1) (b : Fin 16) (r : Fin 513) :
    Rows.Good (fun l => X (ix4 b 0 r l)) (fun l => X (ix4 b 1 r l)) := by
  haveI : Subsingleton S_.Idx := ⟨fun a b => funext fun i => i.elim0⟩
  have h0 := congrFun ((fn_eq X).symm.trans hX) (fun a => a.elim0)
  obtain ⟨hA, hB⟩ := IntOp.andi_eq_one.1 h0
  have m0 : ∀ l, magV X (ix3 b r l) = X (ix4 b 0 r l) := fun l => Rows.plane_at X 0 _ rfl _ _ b r l
  have m1 : ∀ l, phV X (ix3 b r l) = X (ix4 b 1 r l) := fun l => Rows.plane_at X 1 _ rfl _ _ b r l
  refine ⟨?_, fun l => ?_⟩
  · obtain ⟨f1, f2⟩ := power_at _ _ _ (Host.reduce_andi_all _ _ _ _ _ hA (ix2 b r))
    rw [stepsV_apply, levelV_apply] at f1
    rw [levelV_apply] at f2
    simp only [m0] at f1 f2
    exact word_of _ f1 f2
  · have f := phase_at _ _ (Host.reduce_andi_all _ _ _ _ _ hB (ix3 b r l))
    rw [m1] at f
    exact finite_of (X (ix4 b 1 r l)) f

end Cert.Proof.Floats

end
-- ==== Proof.Algebra.lean ====
/- The value claim: the idealized kernel and the reference end with the same array. -/
module

public import proofs.«01_k».proof.Proof.Frames
public import proofs.«01_k».proof.Proof.Finish
public import proofs.«01_k».proof.Proof.Reference
public import proofs.«01_k».proof.Proof.Floats

@[expose] public section

noncomputable section

namespace Cert.Proof

open Idealize.ShloMosaic Idealize.ShloMosaic.TcCoe Idealize.SL.Sem

theorem algebra : Cert.algebraic_KernelIdeal_ReferenceIdeal_pre_float_level (hPre_float_level := Floats.facts) := by
  intro m g m' g' hpre hm
  refine ⟨fun c => Rows.whole (m ((c.tc : Thread Cert.KernelIdeal.nD Cert.KernelIdeal.τ).loc Cert.KernelIdeal.main_arg0)), ?_, ?_⟩
  · refine (θ_run (Cert.KernelIdeal.defs (F := Ideal)) _ _).mono (fun r h c => ⟨?_, (h.1 c).1⟩) (ideal_run m g)
    exact Run.ends_whole m c (fun b l => Floats.good _ (hpre c) b l) _ (h.1 c).2
  · refine (θ_run (Cert.ReferenceIdeal.defs (F := Ideal)) _ _).mono (fun r h c => ⟨?_, (h c).2⟩) (Reference.run m' g')
    exact (h c).1.trans (congrArg Rows.whole (hm c))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem

theorem claim : Cert.Claim := by
  exact ⟨Cert.Kernel.Gen.facts, Cert.KernelIdeal.Gen.facts, Cert.ReferenceIdeal.Gen.facts, Floats.facts,
    frame_kernel, frame_ideal, fun m g _ => frame_ideal m g trivial, frame_reference, fun m g _ => frame_reference m g trivial, trivial, algebra⟩

end Cert.Proof

end
